-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S100000x128 : Shape := ⟨2, ![100000, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S100000x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S100000x128 : Shape := ⟨2, ![100000, 128]⟩
abbrev S6400x128 : Shape := ⟨2, ![6400, 128]⟩
abbrev S819200x128 : Shape := ⟨2, ![819200, 128]⟩
abbrev S200x128 : Shape := ⟨2, ![200, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S16 : Shape := ⟨1, ![16]⟩
abbrev S1x16 : Shape := ⟨2, ![1, 16]⟩
abbrev S1 : Shape := ⟨1, ![1]⟩
abbrev S4096x200x128 : Shape := ⟨3, ![4096, 200, 128]⟩

abbrev nBuf : Table → Nat
  | .hbm => 5
  | .local .scVector .vmem => 5
  | _ => 0

abbrev bufTy : (tb : Table) → Fin (nBuf tb) → BufTy
  | .hbm, ⟨0, _⟩ => ⟨S4096x200, .i32⟩
  | .hbm, ⟨1, _⟩ => ⟨S100000x128, .f32⟩
  | .hbm, ⟨2, _⟩ => ⟨S6400x128, .i32⟩
  | .hbm, ⟨3, _⟩ => ⟨S819200x128, .f32⟩
  | .hbm, ⟨4, _⟩ => ⟨S4096x200x128, .f32⟩
  | .local .scVector .vmem, ⟨0, _⟩ => ⟨S200x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c200_i32 : BitVec 32 := 200#32
  let v3 : BitVec 32 := Scalar.muli v1 c200_i32
  let c0_i32_25_r0 : BitVec 32 := 0#32
  ![v3.toNat, 0]
@[reducible] def k0_t1_loop : Scf.Loop 32 :=
  let c0_i32_14 : BitVec 32 := 0#32
  let c50_i32 : BitVec 32 := 50#32
  let v16 : BitVec 32 := Scalar.addi c0_i32_14 c50_i32
  let c1_i32_15 : BitVec 32 := 1#32
  ⟨c0_i32_14, v16, c1_i32_15⟩
def k0_cond1 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let c1_i32_26 : BitVec 32 := 1#32
  let v31 : BitVec 32 := Scalar.subi v30 c1_i32_26
  let c0_i32_28 : BitVec 32 := 0#32
  let v33 : BitVec 1 := Scalar.cmpi .sge v31 c0_i32_28
  let c4_i32_27 : BitVec 32 := 4#32
  let v32 : BitVec 32 := Scalar.addi v31 c4_i32_27
  let c200_i32_29 : BitVec 32 := 200#32
  let v34 : BitVec 1 := Scalar.cmpi .slt v32 c200_i32_29
  let v35 : BitVec 1 := Scalar.andi v33 v34
  let v36 : BitVec 32 := Scalar.extui v35
  let c0_i32_30 : BitVec 32 := 0#32
  let v37 : BitVec 1 := Scalar.cmpi .ne v36 c0_i32_30
  v37

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let c1_i32_26 : BitVec 32 := 1#32
  let v31 : BitVec 32 := Scalar.subi v30 c1_i32_26
  let c128_i32_206 : BitVec 32 := 128#32
  let v406 : BitVec 32 := Scalar.muli v31 c128_i32_206
  let v407 : BitVec 32 := Scalar.addi v2 v406
  let c0_i32_207 : BitVec 32 := 0#32
  ![v407.toNat, 0]
def k0_off3 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let c1_i32_26 : BitVec 32 := 1#32
  let v31 : BitVec 32 := Scalar.subi v30 c1_i32_26
  let c4_i32_27 : BitVec 32 := 4#32
  let v32 : BitVec 32 := Scalar.addi v31 c4_i32_27
  let c0_i32_209 : BitVec 32 := 0#32
  ![v32.toNat, 0]
def k0_off4 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let c0_i32_31 : BitVec 32 := 0#32
  ![v30.toNat, 0]
def k0_off5 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v42 : Index := Scalar.indexCast v30
  let c0 : Index := 0#32
  ![v42.toNat, 0]
def k0_off6 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v51 : Index := Scalar.indexCast v30
  let c16 : Index := 16#32
  ![v51.toNat, 16]
def k0_off7 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v60 : Index := Scalar.indexCast v30
  let c32 : Index := 32#32
  ![v60.toNat, 32]
def k0_off8 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v69 : Index := Scalar.indexCast v30
  let c48 : Index := 48#32
  ![v69.toNat, 48]
def k0_off9 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v78 : Index := Scalar.indexCast v30
  let c64 : Index := 64#32
  ![v78.toNat, 64]
def k0_off10 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v87 : Index := Scalar.indexCast v30
  let c80 : Index := 80#32
  ![v87.toNat, 80]
def k0_off11 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v96 : Index := Scalar.indexCast v30
  let c96 : Index := 96#32
  ![v96.toNat, 96]
def k0_off12 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v105 : Index := Scalar.indexCast v30
  let c112 : Index := 112#32
  ![v105.toNat, 112]
def k0_off13 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v406 : Index := Scalar.indexCast v30
  let c0_206 : Index := 0#32
  ![v406.toNat, 0]
def k0_off14 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v489 : Index := Scalar.indexCast v30
  let c16_239 : Index := 16#32
  ![v489.toNat, 16]
def k0_off15 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v572 : Index := Scalar.indexCast v30
  let c32_272 : Index := 32#32
  ![v572.toNat, 32]
def k0_off16 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v655 : Index := Scalar.indexCast v30
  let c48_305 : Index := 48#32
  ![v655.toNat, 48]
def k0_off17 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v738 : Index := Scalar.indexCast v30
  let c64_338 : Index := 64#32
  ![v738.toNat, 64]
def k0_off18 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v821 : Index := Scalar.indexCast v30
  let c80_371 : Index := 80#32
  ![v821.toNat, 80]
def k0_off19 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v904 : Index := Scalar.indexCast v30
  let c96_404 : Index := 96#32
  ![v904.toNat, 96]
def k0_off20 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let v987 : Index := Scalar.indexCast v30
  let c112_437 : Index := 112#32
  ![v987.toNat, 112]
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c0_i32_25 : BitVec 32 := 0#32
  let v30 : BitVec 32 := Scalar.addi v29 c0_i32_25
  let c128_i32 : BitVec 32 := 128#32
  let v120 : BitVec 32 := Scalar.muli v30 c128_i32
  let v121 : BitVec 32 := Scalar.addi v2 v120
  let c0_i32_60 : BitVec 32 := 0#32
  ![v121.toNat, 0]
def k0_cond131 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let c1_i32_63 : BitVec 32 := 1#32
  let v125 : BitVec 32 := Scalar.subi v124 c1_i32_63
  let c0_i32_65 : BitVec 32 := 0#32
  let v127 : BitVec 1 := Scalar.cmpi .sge v125 c0_i32_65
  let c4_i32_64 : BitVec 32 := 4#32
  let v126 : BitVec 32 := Scalar.addi v125 c4_i32_64
  let c200_i32_66 : BitVec 32 := 200#32
  let v128 : BitVec 1 := Scalar.cmpi .slt v126 c200_i32_66
  let v129 : BitVec 1 := Scalar.andi v127 v128
  let v130 : BitVec 32 := Scalar.extui v129
  let c0_i32_67 : BitVec 32 := 0#32
  let v131 : BitVec 1 := Scalar.cmpi .ne v130 c0_i32_67
  v131

def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let c1_i32_63 : BitVec 32 := 1#32
  let v125 : BitVec 32 := Scalar.subi v124 c1_i32_63
  let c128_i32_206 : BitVec 32 := 128#32
  let v406 : BitVec 32 := Scalar.muli v125 c128_i32_206
  let v407 : BitVec 32 := Scalar.addi v2 v406
  let c0_i32_207 : BitVec 32 := 0#32
  ![v407.toNat, 0]
def k0_off23 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let c1_i32_63 : BitVec 32 := 1#32
  let v125 : BitVec 32 := Scalar.subi v124 c1_i32_63
  let c4_i32_64 : BitVec 32 := 4#32
  let v126 : BitVec 32 := Scalar.addi v125 c4_i32_64
  let c0_i32_209 : BitVec 32 := 0#32
  ![v126.toNat, 0]
def k0_off24 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let c0_i32_68 : BitVec 32 := 0#32
  ![v124.toNat, 0]
def k0_off25 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v136 : Index := Scalar.indexCast v124
  let c0_72 : Index := 0#32
  ![v136.toNat, 0]
def k0_off26 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v145 : Index := Scalar.indexCast v124
  let c16_76 : Index := 16#32
  ![v145.toNat, 16]
def k0_off27 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v154 : Index := Scalar.indexCast v124
  let c32_80 : Index := 32#32
  ![v154.toNat, 32]
def k0_off28 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v163 : Index := Scalar.indexCast v124
  let c48_84 : Index := 48#32
  ![v163.toNat, 48]
def k0_off29 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v172 : Index := Scalar.indexCast v124
  let c64_88 : Index := 64#32
  ![v172.toNat, 64]
def k0_off30 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v181 : Index := Scalar.indexCast v124
  let c80_92 : Index := 80#32
  ![v181.toNat, 80]
def k0_off31 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v190 : Index := Scalar.indexCast v124
  let c96_96 : Index := 96#32
  ![v190.toNat, 96]
def k0_off32 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v199 : Index := Scalar.indexCast v124
  let c112_100 : Index := 112#32
  ![v199.toNat, 112]
def k0_off33 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v406 : Index := Scalar.indexCast v124
  let c0_206 : Index := 0#32
  ![v406.toNat, 0]
def k0_off34 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v489 : Index := Scalar.indexCast v124
  let c16_239 : Index := 16#32
  ![v489.toNat, 16]
def k0_off35 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v572 : Index := Scalar.indexCast v124
  let c32_272 : Index := 32#32
  ![v572.toNat, 32]
def k0_off36 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v655 : Index := Scalar.indexCast v124
  let c48_305 : Index := 48#32
  ![v655.toNat, 48]
def k0_off37 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v738 : Index := Scalar.indexCast v124
  let c64_338 : Index := 64#32
  ![v738.toNat, 64]
def k0_off38 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v821 : Index := Scalar.indexCast v124
  let c80_371 : Index := 80#32
  ![v821.toNat, 80]
def k0_off39 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v904 : Index := Scalar.indexCast v124
  let c96_404 : Index := 96#32
  ![v904.toNat, 96]
def k0_off40 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let v987 : Index := Scalar.indexCast v124
  let c112_437 : Index := 112#32
  ![v987.toNat, 112]
def k0_off41 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c1_i32_62 : BitVec 32 := 1#32
  let v124 : BitVec 32 := Scalar.addi v29 c1_i32_62
  let c128_i32_107 : BitVec 32 := 128#32
  let v214 : BitVec 32 := Scalar.muli v124 c128_i32_107
  let v215 : BitVec 32 := Scalar.addi v2 v214
  let c0_i32_108 : BitVec 32 := 0#32
  ![v215.toNat, 0]
def k0_cond261 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let c1_i32_111 : BitVec 32 := 1#32
  let v219 : BitVec 32 := Scalar.subi v218 c1_i32_111
  let c0_i32_113 : BitVec 32 := 0#32
  let v221 : BitVec 1 := Scalar.cmpi .sge v219 c0_i32_113
  let c4_i32_112 : BitVec 32 := 4#32
  let v220 : BitVec 32 := Scalar.addi v219 c4_i32_112
  let c200_i32_114 : BitVec 32 := 200#32
  let v222 : BitVec 1 := Scalar.cmpi .slt v220 c200_i32_114
  let v223 : BitVec 1 := Scalar.andi v221 v222
  let v224 : BitVec 32 := Scalar.extui v223
  let c0_i32_115 : BitVec 32 := 0#32
  let v225 : BitVec 1 := Scalar.cmpi .ne v224 c0_i32_115
  v225

def k0_off42 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let c1_i32_111 : BitVec 32 := 1#32
  let v219 : BitVec 32 := Scalar.subi v218 c1_i32_111
  let c128_i32_206 : BitVec 32 := 128#32
  let v406 : BitVec 32 := Scalar.muli v219 c128_i32_206
  let v407 : BitVec 32 := Scalar.addi v2 v406
  let c0_i32_207 : BitVec 32 := 0#32
  ![v407.toNat, 0]
def k0_off43 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let c1_i32_111 : BitVec 32 := 1#32
  let v219 : BitVec 32 := Scalar.subi v218 c1_i32_111
  let c4_i32_112 : BitVec 32 := 4#32
  let v220 : BitVec 32 := Scalar.addi v219 c4_i32_112
  let c0_i32_209 : BitVec 32 := 0#32
  ![v220.toNat, 0]
def k0_off44 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let c0_i32_116 : BitVec 32 := 0#32
  ![v218.toNat, 0]
def k0_off45 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v230 : Index := Scalar.indexCast v218
  let c0_120 : Index := 0#32
  ![v230.toNat, 0]
def k0_off46 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v239 : Index := Scalar.indexCast v218
  let c16_124 : Index := 16#32
  ![v239.toNat, 16]
def k0_off47 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v248 : Index := Scalar.indexCast v218
  let c32_128 : Index := 32#32
  ![v248.toNat, 32]
def k0_off48 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v257 : Index := Scalar.indexCast v218
  let c48_132 : Index := 48#32
  ![v257.toNat, 48]
def k0_off49 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v266 : Index := Scalar.indexCast v218
  let c64_136 : Index := 64#32
  ![v266.toNat, 64]
def k0_off50 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v275 : Index := Scalar.indexCast v218
  let c80_140 : Index := 80#32
  ![v275.toNat, 80]
def k0_off51 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v284 : Index := Scalar.indexCast v218
  let c96_144 : Index := 96#32
  ![v284.toNat, 96]
def k0_off52 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v293 : Index := Scalar.indexCast v218
  let c112_148 : Index := 112#32
  ![v293.toNat, 112]
def k0_off53 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v406 : Index := Scalar.indexCast v218
  let c0_206 : Index := 0#32
  ![v406.toNat, 0]
def k0_off54 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v489 : Index := Scalar.indexCast v218
  let c16_239 : Index := 16#32
  ![v489.toNat, 16]
def k0_off55 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v572 : Index := Scalar.indexCast v218
  let c32_272 : Index := 32#32
  ![v572.toNat, 32]
def k0_off56 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v655 : Index := Scalar.indexCast v218
  let c48_305 : Index := 48#32
  ![v655.toNat, 48]
def k0_off57 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v738 : Index := Scalar.indexCast v218
  let c64_338 : Index := 64#32
  ![v738.toNat, 64]
def k0_off58 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v821 : Index := Scalar.indexCast v218
  let c80_371 : Index := 80#32
  ![v821.toNat, 80]
def k0_off59 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v904 : Index := Scalar.indexCast v218
  let c96_404 : Index := 96#32
  ![v904.toNat, 96]
def k0_off60 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let v987 : Index := Scalar.indexCast v218
  let c112_437 : Index := 112#32
  ![v987.toNat, 112]
def k0_off61 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c2_i32_110 : BitVec 32 := 2#32
  let v218 : BitVec 32 := Scalar.addi v29 c2_i32_110
  let c128_i32_155 : BitVec 32 := 128#32
  let v308 : BitVec 32 := Scalar.muli v218 c128_i32_155
  let v309 : BitVec 32 := Scalar.addi v2 v308
  let c0_i32_156 : BitVec 32 := 0#32
  ![v309.toNat, 0]
def k0_cond391 (k0_t1 : Fin k0_t1_loop.trips) : BitVec 1 :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let c1_i32_159 : BitVec 32 := 1#32
  let v313 : BitVec 32 := Scalar.subi v312 c1_i32_159
  let c0_i32_161 : BitVec 32 := 0#32
  let v315 : BitVec 1 := Scalar.cmpi .sge v313 c0_i32_161
  let c4_i32_160 : BitVec 32 := 4#32
  let v314 : BitVec 32 := Scalar.addi v313 c4_i32_160
  let c200_i32_162 : BitVec 32 := 200#32
  let v316 : BitVec 1 := Scalar.cmpi .slt v314 c200_i32_162
  let v317 : BitVec 1 := Scalar.andi v315 v316
  let v318 : BitVec 32 := Scalar.extui v317
  let c0_i32_163 : BitVec 32 := 0#32
  let v319 : BitVec 1 := Scalar.cmpi .ne v318 c0_i32_163
  v319

def k0_off62 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let c1_i32_159 : BitVec 32 := 1#32
  let v313 : BitVec 32 := Scalar.subi v312 c1_i32_159
  let c128_i32_206 : BitVec 32 := 128#32
  let v406 : BitVec 32 := Scalar.muli v313 c128_i32_206
  let v407 : BitVec 32 := Scalar.addi v2 v406
  let c0_i32_207 : BitVec 32 := 0#32
  ![v407.toNat, 0]
def k0_off63 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let c1_i32_159 : BitVec 32 := 1#32
  let v313 : BitVec 32 := Scalar.subi v312 c1_i32_159
  let c4_i32_160 : BitVec 32 := 4#32
  let v314 : BitVec 32 := Scalar.addi v313 c4_i32_160
  let c0_i32_209 : BitVec 32 := 0#32
  ![v314.toNat, 0]
def k0_off64 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let c0_i32_164 : BitVec 32 := 0#32
  ![v312.toNat, 0]
def k0_off65 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v324 : Index := Scalar.indexCast v312
  let c0_168 : Index := 0#32
  ![v324.toNat, 0]
def k0_off66 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v333 : Index := Scalar.indexCast v312
  let c16_172 : Index := 16#32
  ![v333.toNat, 16]
def k0_off67 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v342 : Index := Scalar.indexCast v312
  let c32_176 : Index := 32#32
  ![v342.toNat, 32]
def k0_off68 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v351 : Index := Scalar.indexCast v312
  let c48_180 : Index := 48#32
  ![v351.toNat, 48]
def k0_off69 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v360 : Index := Scalar.indexCast v312
  let c64_184 : Index := 64#32
  ![v360.toNat, 64]
def k0_off70 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v369 : Index := Scalar.indexCast v312
  let c80_188 : Index := 80#32
  ![v369.toNat, 80]
def k0_off71 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v378 : Index := Scalar.indexCast v312
  let c96_192 : Index := 96#32
  ![v378.toNat, 96]
def k0_off72 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v387 : Index := Scalar.indexCast v312
  let c112_196 : Index := 112#32
  ![v387.toNat, 112]
def k0_off73 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v406 : Index := Scalar.indexCast v312
  let c0_206 : Index := 0#32
  ![v406.toNat, 0]
def k0_off74 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v489 : Index := Scalar.indexCast v312
  let c16_239 : Index := 16#32
  ![v489.toNat, 16]
def k0_off75 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v572 : Index := Scalar.indexCast v312
  let c32_272 : Index := 32#32
  ![v572.toNat, 32]
def k0_off76 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v655 : Index := Scalar.indexCast v312
  let c48_305 : Index := 48#32
  ![v655.toNat, 48]
def k0_off77 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v738 : Index := Scalar.indexCast v312
  let c64_338 : Index := 64#32
  ![v738.toNat, 64]
def k0_off78 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v821 : Index := Scalar.indexCast v312
  let c80_371 : Index := 80#32
  ![v821.toNat, 80]
def k0_off79 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v904 : Index := Scalar.indexCast v312
  let c96_404 : Index := 96#32
  ![v904.toNat, 96]
def k0_off80 (k0_t1 : Fin k0_t1_loop.trips) : Fin 2 → Nat :=
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let v987 : Index := Scalar.indexCast v312
  let c112_437 : Index := 112#32
  ![v987.toNat, 112]
def k0_off81 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_14 : BitVec 32 := 0#32
  let c1_i32_15 : BitVec 32 := 1#32
  let arg18 : BitVec 32 := Scf.iv c0_i32_14 c1_i32_15 k0_t1
  let c4_i32 : BitVec 32 := 4#32
  let v29 : BitVec 32 := Scalar.muli arg18 c4_i32
  let c3_i32_158 : BitVec 32 := 3#32
  let v312 : BitVec 32 := Scalar.addi v29 c3_i32_158
  let c128_i32_203 : BitVec 32 := 128#32
  let v402 : BitVec 32 := Scalar.muli v312 c128_i32_203
  let v403 : BitVec 32 := Scalar.addi v2 v402
  let c0_i32_204 : BitVec 32 := 0#32
  ![v403.toNat, 0]
def k0_off82 (i : grid0.Coords) (c25088_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v17 : BitVec 32 := Scalar.addi v2 c25088_i32
  let c0_i32_17 : BitVec 32 := 0#32
  ![v17.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S100000x128 : Shape := ⟨2, ![100000, 128]⟩
abbrev S_ : Shape := ⟨0, ![]⟩
abbrev S1 : Shape := ⟨1, ![1]⟩
abbrev S128 : Shape := ⟨1, ![128]⟩
abbrev S4096x200x1 : Shape := ⟨3, ![4096, 200, 1]⟩
abbrev S1x1x1 : Shape := ⟨3, ![1, 1, 1]⟩
abbrev S4096x200x128 : Shape := ⟨3, ![4096, 200, 128]⟩

abbrev nBuf : Space → Nat
  | .hbm => 30
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S100000x128, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S128, .f32⟩
  | .hbm, ⟨6, _⟩ => ⟨S100000x128, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S4096x200, .i32⟩
  | .hbm, ⟨12, _⟩ => ⟨S4096x200, .i32⟩
  | .hbm, ⟨13, _⟩ => ⟨S4096x200, .i32⟩
  | .hbm, ⟨14, _⟩ => ⟨S4096x200x1, .i32⟩
  | .hbm, ⟨15, _⟩ => ⟨S1, .i32⟩
  | .hbm, ⟨16, _⟩ => ⟨S_, .i32⟩
  | .hbm, ⟨17, _⟩ => ⟨S4096x200x1, .i32⟩
  | .hbm, ⟨18, _⟩ => ⟨S4096x200x1, .i1⟩
  | .hbm, ⟨19, _⟩ => ⟨S1x1x1, .i32⟩
  | .hbm, ⟨20, _⟩ => ⟨S4096x200x1, .i32⟩
  | .hbm, ⟨21, _⟩ => ⟨S4096x200x1, .i1⟩
  | .hbm, ⟨22, _⟩ => ⟨S4096x200x1, .i1⟩
  | .hbm, ⟨23, _⟩ => ⟨S_, .i1⟩
  | .hbm, ⟨24, _⟩ => ⟨S4096x200, .i1⟩
  | .hbm, ⟨25, _⟩ => ⟨S4096x200x128, .f32⟩
  | .hbm, ⟨26, _⟩ => ⟨S4096x200x128, .i1⟩
  | .hbm, ⟨27, _⟩ => ⟨S_, .f32⟩
  | .hbm, ⟨28, _⟩ => ⟨S4096x200x128, .f32⟩
  | .hbm, ⟨29, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.KernelIdeal.Base.lean ====
/-
  The setting every module of the kernel's proof shares: the thread of one vector subcore, the resource algebra, what
  it is to hold a memref at known contents, and the few steps on a single load or store all the others are made of.
-/
module

public import proofs.«01_k».proof.KernelIdeal.P01
public import Idealize.ShloMosaic.Lib.SparseCore.Quiescent
public import Idealize.ShloMosaic.Lib.SparseCore.Ops
public import Idealize.ShloMosaic.Lib.SparseCore.Stream
public import Idealize.ShloMosaic.Lib.Tactic

@[expose] public section

noncomputable section

namespace Cert.KernelIdeal.Tile

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [Facts]
open K0.Facts₀ Shapes1.Facts₀ Shapes2.Facts₀ Facts

/-- The ghost state: the launch's handshakes beside the transfers' counters. -/
abbrev UH : Type := URounds (GSem nD τ sig) ℕ
abbrev UU : Type := UH × Counters

local notation "𝕄" => MT nD τ sig (HIx 1) (Elt F) ℕ UU ℕ

/-- The SparseCore and the subcore of grid point `i`, and the thread they are. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- Programs of grid point `i`'s subcore. -/
abbrev TProg (F : FTy → Type) (i : grid0.Coords) (α : Type) : Type 1 :=
  Prog (TpuEff nD τ sig (Elt F) Λ₀ (.scVector ((i 0).castLE hcore0) ((i 1).castLE hsub0))) α

/-- The subcore runs `p` to `Q`, under body table `defs`. -/
def wpT {α : Type} (defs : Defs nD τ sig (Elt F) Λ₀) (d : Dev nD) (i : grid0.Coords) (p : TProg F i α) (Q : α → sProp 𝕄) : sProp 𝕄 :=
  wp frame (wpE defs Variants.none (thr d i) none) Set.univ p Q

/-- Share `q` of memref `b`'s own elements, which read `G`. -/
def hold {sp : Space} {s : Shape} {e : EltTy} (d : Dev nD) (i : grid0.Coords) (b : Memref sig .scVector sp s e)
    (q : PosShare TreeShare) (G : s.Idx → Elt F e) : sProp 𝕄 :=
  iprop(∃ f : Buf (Elt F) (b.view.loc (thr d i)), ⌜b.view.read (Elt F) f = G⌝ ∗ (b.view.loc (thr d i) ↦[b.view.set]{q} f))

section Steps

variable {defs : Defs nD τ sig (Elt F) Λ₀} {d : Dev nD} {i : grid0.Coords} {α : Type}

/-- A load through a rectangle gives what the memref reads there, and leaves the memref as it was. -/
theorem load_hold {Q : α → sProp 𝕄} {cs : CoreSpace} {s : Shape} {e : EltTy} {b : Memref sig .scVector cs s e} {q : PosShare TreeShare}
    {G : s.Idx → Elt F e} {r : Rect s} {hl : b.view.LoadsAt r.toLoadRect}
    {k : (r.toLoadRect.shape.Idx → Elt F e) → TProg F i α} {X : sProp 𝕄}
    (h : iprop(hold d i b q G ∗ X) ⊢ wpT defs d i (k fun x => G (r.toLoadRect.idx x)) Q) :
    iprop(hold d i b q G ∗ X) ⊢ wpT defs d i (Prog.lift (.load b r.toLoadRect hl) >>= k) Q := by
  unfold wpT at *
  unfold hold
  iintro ⟨⟨%f, %hf, Hb⟩, HX⟩
  have hS : (b.access r).set ⊆ b.view.set := fun x hx => by
    rw [show (b.access r).set = r.set.map b.view.emb from View.set_slice b.view r] at hx
    obtain ⟨y, -, rfl⟩ := Finset.mem_map.mp hx
    exact b.view.emb_mem_set y
  iapply (wp_load_rect Variants.none (thr d i) none Set.univ (m := b) (r := r) hS) $$ Hb
  iintro Hb
  have e : (b.access r).read (Elt F) f = fun x => G (r.toLoadRect.idx x) := by subst hf; rfl
  rw [e]
  iapply h
  isplitl [Hb]
  · unfold hold
    iexists f; isplitr
    · ipureintro; exact hf
    · iexact Hb
  · iexact HX

end Steps

end Cert.KernelIdeal.Tile
-- ==== Proof.KernelIdeal.Rows.lean ====
/-
  One row of a chunk at a time. The kernel clears, row after row, those rows of a gathered chunk whose index is the
  padding index. Here is what its text for one row does to the chunk, whatever the row, the buffer and the rest of
  the program; the buffers' four long passages are this step over and over.
-/
module

public import proofs.«01_k».proof.Proof.KernelIdeal.Base

@[expose] public section

noncomputable section

namespace Cert.KernelIdeal.Tile

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

/-- The float a cleared element holds. -/
abbrev zf : Elt F .f32 := (Scalar.ofBits .f32 0x00000000#32 : F .f32)

/-- The sixteen zeros one store writes. -/
abbrev zvec : S1x16.Idx → Elt F .f32 := shapeCast S1x16 (broadcast S16 (Scalar.ofBits .f32 0x00000000#32 : F .f32)) shapeCasts_S16_S1x16

/-- `G` with the rows below `n` that satisfy `P` cleared. -/
def cleared (P : ℕ → Prop) (n : ℕ) (G : S128x128.Idx → Elt F .f32) : S128x128.Idx → Elt F .f32 := by
  classical exact fun x => if (x 0).val < n ∧ P (x 0).val then zf else G x

/-- `G` with columns `k ≤ · < k + 16` of row `r` cleared. -/
def put16 (r k : ℕ) (G : S128x128.Idx → Elt F .f32) : S128x128.Idx → Elt F .f32 :=
  fun x => if (x 0).val = r ∧ k ≤ (x 1).val ∧ (x 1).val < k + 16 then zf else G x

theorem cleared_zero (P : ℕ → Prop) (G : S128x128.Idx → Elt F .f32) : cleared P 0 G = G := by
  funext x; simp [cleared]

/-- A row that is not padding is left alone; -/
theorem cleared_skip {P : ℕ → Prop} {r : ℕ} (h : ¬P r) (G : S128x128.Idx → Elt F .f32) : cleared P (r + 1) G = cleared P r G := by
  classical
  funext x
  unfold cleared
  refine if_congr ⟨fun ⟨h1, h2⟩ => ⟨?_, h2⟩, fun ⟨h1, h2⟩ => ⟨by omega, h2⟩⟩ rfl rfl
  rcases Nat.lt_succ_iff_lt_or_eq.mp h1 with h' | h'
  · exact h'
  · exact absurd (h' ▸ h2) h

/-- one that is, is cleared by eight stores of sixteen zeros. -/
theorem cleared_row {P : ℕ → Prop} {r : ℕ} (h : P r) (G : S128x128.Idx → Elt F .f32) :
    put16 r 112 (put16 r 96 (put16 r 80 (put16 r 64 (put16 r 48 (put16 r 32 (put16 r 16 (put16 r 0 (cleared P r G)))))))) = cleared P (r + 1) G := by
  classical
  funext x
  have hx : (x 1).val < 128 := (x 1).isLt
  by_cases h0 : (x 0).val = r
  · have : (x 0).val < r + 1 ∧ P (x 0).val := ⟨by omega, h0 ▸ h⟩
    unfold cleared
    rw [if_pos this]
    simp only [put16, h0, true_and]
    split_ifs <;> first | rfl | omega
  · simp only [put16, h0, false_and, if_false, cleared]
    exact if_congr ⟨fun ⟨h1, h2⟩ => ⟨by omega, h2⟩, fun ⟨h1, h2⟩ => ⟨by omega, h2⟩⟩ rfl rfl

section Steps

variable {defs : Defs nD τ sig (Elt F) Λ₀} {d : Dev nD} {i : grid0.Coords} {α : Type}

/-- One store of sixteen zeros. -/
theorem store_put16 {Q : α → sProp 𝕄} {b : Memref sig .scVector .vmem S128x128 .f32} {r k : ℕ} {G : S128x128.Idx → Elt F .f32}
    {inb : ∀ a, (![r, k] : Fin 2 → ℕ) a + S1x16.size a ≤ S128x128.size a}
    {hx : (b.access (Rect.unit (s := S128x128) ![r, k] S1x16.size inb)).Stores Finset.univ} {hm}
    {K : PUnit → TProg F i α} {X : sProp 𝕄}
    (h : iprop(hold d i b fullShare (put16 r k G) ∗ X) ⊢ wpT defs d i (K ⟨⟩) Q) :
    iprop(hold d i b fullShare G ∗ X)
      ⊢ wpT defs d i (Prog.lift (.store b (Rect.unit (s := S128x128) ![r, k] S1x16.size inb) (zvec (F := F)) Finset.univ hx hm) >>= K) Q := by
  unfold wpT at *
  unfold hold
  iintro ⟨⟨%f, %hf, Hb⟩, HX⟩
  have hS : (b.access (Rect.unit (s := S128x128) ![r, k] S1x16.size inb)).setOn Finset.univ ⊆ b.view.set := fun x hx => by
    rw [View.setOn_univ, show (b.access (Rect.unit (s := S128x128) ![r, k] S1x16.size inb)).set
      = (Rect.unit (s := S128x128) ![r, k] S1x16.size inb).set.map b.view.emb from View.set_slice b.view _] at hx
    obtain ⟨y, -, rfl⟩ := Finset.mem_map.mp hx
    exact b.view.emb_mem_set y
  iapply (wp_store Variants.none (thr d i) none Set.univ (m := b) (r := Rect.unit (s := S128x128) ![r, k] S1x16.size inb)
    (w := zvec (F := F)) (Mk := Finset.univ) (f := f) hS) $$ Hb
  iintro Hb
  iapply h
  isplitl [Hb]
  · unfold hold
    iexists _; isplitr
    swap; · iexact Hb
    ipureintro
    funext y
    unfold put16
    by_cases hy : y ∈ (Rect.unit (s := S128x128) ![r, k] S1x16.size inb).set
    · have hy' := Rect.mem_set_unit.mp hy
      obtain ⟨x, rfl⟩ := (Rect.unit (s := S128x128) ![r, k] S1x16.size inb).exists_idx_of_mem hy
      rw [if_pos ⟨by have := hy' 0; exact Nat.le_antisymm (Nat.le_of_lt_succ this.2) this.1, by have := hy' 1; simpa using this⟩]
      exact View.read_slice_write_emb (v := b.view) _ f _ (Finset.mem_univ x)
    · rw [View.read_slice_write_of_not_mem (v := b.view) _ f _ _ (by rwa [Rect.map_emb_univ]), hf, if_neg]
      rintro ⟨h0, h1, h2⟩
      refine hy (Rect.mem_set_unit.mpr fun a => ?_)
      match a with
      | 0 => simp [h0]
      | 1 => simpa using ⟨h1, h2⟩
  · iexact HX

/-- The kernel's text clearing row `r`: eight times, a load no one reads and a store of sixteen zeros. -/
@[reducible] def rowProg (b : Memref sig .scVector .vmem S128x128 .f32) (r : ℕ) (K : TProg F i α)
    (h0 : ∀ a, (![r, 0] : Fin 2 → ℕ) a + S1x16.size a ≤ S128x128.size a) (h1 : ∀ a, (![r, 16] : Fin 2 → ℕ) a + S1x16.size a ≤ S128x128.size a)
    (h2 : ∀ a, (![r, 32] : Fin 2 → ℕ) a + S1x16.size a ≤ S128x128.size a) (h3 : ∀ a, (![r, 48] : Fin 2 → ℕ) a + S1x16.size a ≤ S128x128.size a)
    (h4 : ∀ a, (![r, 64] : Fin 2 → ℕ) a + S1x16.size a ≤ S128x128.size a) (h5 : ∀ a, (![r, 80] : Fin 2 → ℕ) a + S1x16.size a ≤ S128x128.size a)
    (h6 : ∀ a, (![r, 96] : Fin 2 → ℕ) a + S1x16.size a ≤ S128x128.size a) (h7 : ∀ a, (![r, 112] : Fin 2 → ℕ) a + S1x16.size a ≤ S128x128.size a) :
    TProg F i α := do
  let _ : Vec F S1x16 .f32 ← Prog.lift (.load b (Rect.unit (s := S128x128) ![r, 0] S1x16.size h0).toLoadRect (View.loadsAt_vmem h_S1x16))
  Prog.lift (.store b (Rect.unit (s := S128x128) ![r, 0] S1x16.size h0) (zvec (F := F)) Finset.univ (View.stores_vmem_bits_univ h_S1x16 rfl) (.inl rfl))
  let _ : Vec F S1x16 .f32 ← Prog.lift (.load b (Rect.unit (s := S128x128) ![r, 16] S1x16.size h1).toLoadRect (View.loadsAt_vmem h_S1x16))
  Prog.lift (.store b (Rect.unit (s := S128x128) ![r, 16] S1x16.size h1) (zvec (F := F)) Finset.univ (View.stores_vmem_bits_univ h_S1x16 rfl) (.inl rfl))
  let _ : Vec F S1x16 .f32 ← Prog.lift (.load b (Rect.unit (s := S128x128) ![r, 32] S1x16.size h2).toLoadRect (View.loadsAt_vmem h_S1x16))
  Prog.lift (.store b (Rect.unit (s := S128x128) ![r, 32] S1x16.size h2) (zvec (F := F)) Finset.univ (View.stores_vmem_bits_univ h_S1x16 rfl) (.inl rfl))
  let _ : Vec F S1x16 .f32 ← Prog.lift (.load b (Rect.unit (s := S128x128) ![r, 48] S1x16.size h3).toLoadRect (View.loadsAt_vmem h_S1x16))
  Prog.lift (.store b (Rect.unit (s := S128x128) ![r, 48] S1x16.size h3) (zvec (F := F)) Finset.univ (View.stores_vmem_bits_univ h_S1x16 rfl) (.inl rfl))
  let _ : Vec F S1x16 .f32 ← Prog.lift (.load b (Rect.unit (s := S128x128) ![r, 64] S1x16.size h4).toLoadRect (View.loadsAt_vmem h_S1x16))
  Prog.lift (.store b (Rect.unit (s := S128x128) ![r, 64] S1x16.size h4) (zvec (F := F)) Finset.univ (View.stores_vmem_bits_univ h_S1x16 rfl) (.inl rfl))
  let _ : Vec F S1x16 .f32 ← Prog.lift (.load b (Rect.unit (s := S128x128) ![r, 80] S1x16.size h5).toLoadRect (View.loadsAt_vmem h_S1x16))
  Prog.lift (.store b (Rect.unit (s := S128x128) ![r, 80] S1x16.size h5) (zvec (F := F)) Finset.univ (View.stores_vmem_bits_univ h_S1x16 rfl) (.inl rfl))
  let _ : Vec F S1x16 .f32 ← Prog.lift (.load b (Rect.unit (s := S128x128) ![r, 96] S1x16.size h6).toLoadRect (View.loadsAt_vmem h_S1x16))
  Prog.lift (.store b (Rect.unit (s := S128x128) ![r, 96] S1x16.size h6) (zvec (F := F)) Finset.univ (View.stores_vmem_bits_univ h_S1x16 rfl) (.inl rfl))
  let _ : Vec F S1x16 .f32 ← Prog.lift (.load b (Rect.unit (s := S128x128) ![r, 112] S1x16.size h7).toLoadRect (View.loadsAt_vmem h_S1x16))
  Prog.lift (.store b (Rect.unit (s := S128x128) ![r, 112] S1x16.size h7) (zvec (F := F)) Finset.univ (View.stores_vmem_bits_univ h_S1x16 rfl) (.inl rfl))
  K

/-- THE ROW STEP: under a condition that says row `r` is padding, the kernel's text for row `r` takes the chunk from
    "the rows below `r` done" to "the rows below `r + 1` done", and goes on. -/
theorem row_step {Q : α → sProp 𝕄} {b : Memref sig .scVector .vmem S128x128 .f32} {r : ℕ} {G : S128x128.Idx → Elt F .f32} {P : ℕ → Prop}
    {cnd : BitVec 1} {K : TProg F i α} {X : sProp 𝕄} {h0 h1 h2 h3 h4 h5 h6 h7}
    (hc : cnd = 1#1 ↔ P r)
    (h : iprop(hold d i b fullShare (cleared P (r + 1) G) ∗ X) ⊢ wpT defs d i K Q) :
    iprop(hold d i b fullShare (cleared P r G) ∗ X)
      ⊢ wpT defs d i (if cnd = 1#1 then rowProg b r K h0 h1 h2 h3 h4 h5 h6 h7 else K) Q := by
  by_cases hp : P r
  · rw [if_pos (hc.mpr hp)]
    iterate 8
      refine load_hold ?_
      refine store_put16 ?_
    rw [cleared_row hp]
    exact h
  · rw [if_neg (fun e => hp (hc.mp e))]
    rw [cleared_skip hp] at h
    exact h

end Steps

/-- Lane `j` of sixteen. -/
def lane (j : ℕ) (hj : j < 16) : S16.Idx := fun a => ⟨j, by obtain rfl : a = 0 := Subsingleton.elim _ _; exact hj⟩

/-- Position `(a, j)` of the tile's list of indices. -/
def at2 (a j : ℕ) (ha : a < 200) (hj : j < 128) : S200x128.Idx :=
  fun c => ⟨(![a, j] : Fin 2 → ℕ) c, by match c with | 0 => exact ha | 1 => exact hj⟩

/-- The kernel's test of lane `j` of sixteen indices: is it the padding index? -/
theorem pad_iff {v : IVec S16 32} {P : ℕ → Prop} {n : ℕ} (hv : ∀ j (hj : j < 16), v (lane j hj) = 99999#32 ↔ P (n + j))
    {j r : ℕ} {hs : S16.Slices ![j] S1} {hp} (hr : j < 16 ∧ n + j = r) :
    Scalar.cmpi .ne (Scalar.extui (Scalar.cmpi .eq (extractAt ![0] (extractStridedSlice S1 ![j] v hs) hp) 99999#32)) 0#32 = 1#1 ↔ P r := by
  obtain ⟨hj, rfl⟩ := hr
  rw [← hv j hj]
  have e : extractAt ![0] (extractStridedSlice S1 ![j] v hs) hp = v (lane j hj) := by
    unfold extractAt extractStridedSlice lane
    congr 1
    funext a
    obtain rfl : a = 0 := Subsingleton.elim _ _
    exact Fin.ext (by simp)
  rw [e]
  generalize v (lane j hj) = w
  by_cases hw : w = 99999#32
  · subst hw; decide
  · have : Scalar.cmpi .eq w 99999#32 = 0#1 := by
      show BitVec.ofBool (w == 99999#32) = 0#1
      rw [beq_eq_false_iff_ne.mpr hw]; rfl
    rw [this]
    simp only [hw, iff_false]
    decide

/-- What a load of sixteen indices at `(ci, 16 g)` holds, lane by lane. -/
theorem lane_load {L : S200x128.Idx → BitVec 32} {off : Fin 2 → ℕ} {inb : ∀ a, off a + S1x16.size a ≤ S200x128.size a} {hsc}
    {ci n j : ℕ} (ho : off = ![ci, n]) (hj : j < 16) (hci : ci < 200) (hg : n + j < 128) :
    shapeCast S16 (fun x : S1x16.Idx => L ((Rect.unit (s := S200x128) off S1x16.size inb).toLoadRect.idx x)) hsc (lane j hj)
      = L (at2 ci (n + j) hci hg) := by
  subst ho
  unfold shapeCast
  have e : Shape.reshapeEquiv hsc (lane j hj) = (Fin.cons ⟨0, Nat.one_pos⟩ (lane j hj) : S1x16.Idx) := Shape.reshapeEquiv_cons_one (d := ![16]) hsc _
  rw [e]
  refine congrArg L (funext fun a => ?_)
  match a with
  | 0 => exact Fin.ext (by show ci + 1 * 0 = ci; omega)
  | 1 => exact Fin.ext (by show n + 1 * j = n + j; omega)

section Steps

variable {defs : Defs nD τ sig (Elt F) Λ₀} {d : Dev nD} {i : grid0.Coords} {α : Type}

/-- The first two of three resources change places. -/
theorem swap_front {A B C : sProp 𝕄} : iprop(A ∗ B ∗ C) ⊢ iprop(B ∗ A ∗ C) := by
  iintro ⟨H1, H2, H3⟩
  iframe

/-- THE LIST STEP: a load of sixteen indices of chunk `ci`, which says of each lane whether it is padding. -/
theorem list_step {Q : α → sProp 𝕄} {l : Memref sig .scVector .vmem S200x128 .i32} {q : PosShare TreeShare}
    {L : S200x128.Idx → BitVec 32} {P : ℕ → Prop} {ci n : ℕ} {off : Fin 2 → ℕ}
    {inb : ∀ a, off a + S1x16.size a ≤ S200x128.size a} {hl} {K : Vec F S1x16 .i32 → TProg F i α} {A X : sProp 𝕄}
    (ho : off = ![ci, n]) (hci : ci < 200) (hn : n + 16 ≤ 128) (hP : ∀ j (hj : j < 128), L (at2 ci j hci hj) = 99999#32 ↔ P j)
    (h : ∀ raw : Vec F S1x16 .i32, (∀ j (hj : j < 16), shapeCast S16 raw shapeCasts_S1x16_S16 (lane j hj) = 99999#32 ↔ P (n + j)) →
      iprop(A ∗ hold d i l q L ∗ X) ⊢ wpT defs d i (K raw) Q) :
    iprop(A ∗ hold d i l q L ∗ X)
      ⊢ wpT defs d i (Prog.lift (.load l (Rect.unit (s := S200x128) off S1x16.size inb).toLoadRect hl) >>= K) Q := by
  have hh := h (fun x => L ((Rect.unit (s := S200x128) off S1x16.size inb).toLoadRect.idx x))
    (fun j hj => by rw [← hP (n + j) (by omega)]; rw [lane_load ho hj hci])
  exact swap_front.trans (load_hold (swap_front.trans hh))

/-- A part called is its text, with what follows it after. -/
theorem call_step {β : Type} {Q : α → sProp 𝕄} {p : TProg F i β} {K : β → TProg F i α} {X : sProp 𝕄}
    (h : X ⊢ wpT defs d i p fun x => wpT defs d i (K x) Q) : X ⊢ wpT defs d i (p >>= K) Q := by
  unfold wpT at *; rwa [wp_bind]

/-- A part that ends hands on its result. -/
theorem ret_step {β : Type} {Q : α → sProp 𝕄} {x : β} {K : β → TProg F i α} {X : sProp 𝕄}
    (h : X ⊢ wpT defs d i (K x) Q) : X ⊢ wpT defs d i (pure x : TProg F i β) fun x => wpT defs d i (K x) Q := by
  exact BI.Entails.trans h (fupd_intro (Fr := frame))

end Steps

end Cert.KernelIdeal.Tile
-- ==== Proof.KernelIdeal.Flow.lean ====
/-
  The copies of one chunk. A buffer is at any time either waiting for a gather into it or waiting for a store out of it;
  here is what it is to be in each of the two states, and the four steps that lead from one to the other: issue the
  gather, wait for it, issue the store, wait for it.
-/
module

public import proofs.«01_k».proof.Proof.KernelIdeal.Rows

@[expose] public section

noncomputable section

namespace Cert.KernelIdeal.Tile

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

/-! ## What a chunk holds -/

/-- Entry `j` of chunk `n` of the tile's list. -/
def idxAt (L : S200x128.Idx → BitVec 32) (n j : ℕ) : BitVec 32 := if h : n < 200 ∧ j < 128 then L (at2 n j h.1 h.2) else 0#32

/-- Position `(r, c)` of the table. -/
def tpos (r c : ℕ) (hr : r < 100000) (hc : c < 128) : S100000x128.Idx :=
  fun a => ⟨(![r, c] : Fin 2 → ℕ) a, by match a with | 0 => exact hr | 1 => exact hc⟩

/-- Element `(r, c)` of the table. -/
def tabAt (T : S100000x128.Idx → Elt F .f32) (r c : ℕ) : Elt F .f32 := if h : r < 100000 ∧ c < 128 then T (tpos r c h.1 h.2) else zf

/-- The table's rows the list names for chunk `n`. -/
def rowsOf (T : S100000x128.Idx → Elt F .f32) (L : S200x128.Idx → BitVec 32) (n : ℕ) : S128x128.Idx → Elt F .f32 :=
  fun x => tabAt T (idxAt L n (x 0).val).toNat (x 1).val

/-- Entry `j` of chunk `n` is the padding index. -/
def padAt (L : S200x128.Idx → BitVec 32) (n j : ℕ) : Prop := idxAt L n j = 99999#32

/-- Chunk `n` as stored: the rows gathered, those of padding cleared. -/
def chunk (T : S100000x128.Idx → Elt F .f32) (L : S200x128.Idx → BitVec 32) (n : ℕ) : S128x128.Idx → Elt F .f32 :=
  cleared (padAt L n) 128 (rowsOf T L n)

/-- Where the tile's chunk `n` begins in the result. -/
def pieceOff (i : grid0.Coords) (n : ℕ) : Fin 2 → ℕ := ![51200 * (i 1).val + 25600 * (i 0).val + 128 * n, 0]

/-! ## Holding a memref -/

section Hold

variable {d : Dev nD} {i : grid0.Coords} {sp : Space} {s : Shape} {e : EltTy} {b : Memref sig .scVector sp s e} {q : PosShare TreeShare}
  {G : s.Idx → Elt F e}

theorem hold_of {f : Buf (Elt F) (b.view.loc (thr d i))} (h : b.view.read (Elt F) f = G) :
    (b.view.loc (thr d i) ↦[b.view.set]{q} f : sProp 𝕄) ⊢ hold d i b q G := by
  unfold hold
  iintro H
  iexists f
  isplitr
  · ipureintro; exact h
  · iexact H

/-- What a memref reads says what is held of it. -/
theorem hold_to {f : Buf (Elt F) (b.view.loc (thr d i))} (h : b.view.read (Elt F) f = G) :
    (hold d i b q G : sProp 𝕄) ⊢ b.view.loc (thr d i) ↦[b.view.set]{q} f := by
  unfold hold
  iintro ⟨%f', %hf, H⟩
  have e : ∀ y ∈ b.view.set, f' y = f y := fun y hy => by
    obtain ⟨x, -, rfl⟩ := Finset.mem_map.mp hy
    have := congrFun (hf.trans h.symm) x
    rw [View.read_apply, View.read_apply] at this
    exact (cast_inj _).mp this
  iapply (Entails.of_eq (pointsTo_congr e)) $$ H

end Hold

/-! ## The states of a buffer -/

section Flow

variable (d : Dev nD) (i : grid0.Coords) (tb : Memref sig .scVector .hbm S100000x128 .f32) (l : Memref sig .scVector .vmem S200x128 .i32)
  (o : Memref sig .scVector .hbm S819200x128 .f32) (T : S100000x128.Idx → Elt F .f32) (L : S200x128.Idx → BitVec 32)
  (O : CellTallies nD τ sig (HIx 1)) (W : Waits sig (HIx 1))

/-- The part of the result chunk `n` goes to. -/
abbrev piece (n : ℕ) (h : ∀ a, pieceOff i n a + S128x128.size a ≤ S819200x128.size a) : Memref sig .scVector .hbm S128x128 .f32 :=
  o.slice (Rect.unit (s := S819200x128) (pieceOff i n) S128x128.size h) (fun _ => rfl)

/-- That part, at any contents; -/
def Free (n : ℕ) : sProp 𝕄 := iprop(∃ h, ∃ G, hold d i (piece i o n h) fullShare G)

/-- and holding chunk `n`. -/
def Full (n : ℕ) : sProp 𝕄 := iprop(∃ h, hold d i (piece i o n h) fullShare (chunk T L n))

/-- What the subcore owes, its waits so far being its own copies', and its leave to wait. -/
def Ow : sProp 𝕄 := iprop(∃ W' : Waits sig (HIx 1), ⌜∀ p ∈ W', p ∈ W ∨ p.2 = none⌝ ∗ owes (thr d i) O W' ∗ Transfers.MayWaits (thr d i) (default : HIx 1) O)

/-- A buffer with its two semaphores and its shares of the table and the list. -/
structure Slot where
  b : Memref sig .scVector .vmem S128x128 .f32
  gs : DmaSem sig
  ss : DmaSem sig
  qt : PosShare TreeShare
  ql : PosShare TreeShare

variable (B : Slot)

/-- A slot's shares of the table and the list. -/
def Tok : sProp 𝕄 := iprop(hold d i tb B.qt T ∗ hold d i l B.ql L)

/-- The gather of chunk `n` is under way. -/
def GF (n : ℕ) : sProp 𝕄 :=
  iprop(∃ D R : sProp 𝕄, ⌜iprop(D ∗ R) ⊢ iprop(hold d i B.b fullShare (rowsOf T L n) ∗ Tok d i tb l T L B)⌝
    ∗ Transfers.Flight countersEmb (thr d i) (.dma B.gs) (default : HIx 1) B.b.view.dmaCredit D ∗ R ∗ semVal (thr d i, SemLoc.dma B.ss) 0)

/-- The store of chunk `n` is under way. -/
def SF (n : ℕ) : sProp 𝕄 :=
  iprop(∃ D : sProp 𝕄, ⌜D ⊢ iprop(Full d i o T L n ∗ ∃ G, hold d i B.b fullShare G)⌝
    ∗ (∃ h, Transfers.Flight countersEmb (thr d i) (.dma B.ss) (default : HIx 1) (piece i o n h).view.dmaCredit D)
    ∗ Tok d i tb l T L B ∗ semVal (thr d i, SemLoc.dma B.gs) 0)

/-! ## The four steps -/

section Steps

variable {d i tb l o T L O W B} {defs : Defs nD τ sig (Elt F) Λ₀} {α : Type}

/-- Entry `k` of the list's row `n`, as the gather reads it. -/
theorem list_row {off : Fin 2 → ℕ} {inb : ∀ a, off a + S1x128.size a ≤ S200x128.size a} {hst} {n : ℕ} (ho : off = ![n, 0])
    {f : Buf (Elt F) (l.view.loc (thr d i))} (hf : l.view.read (Elt F) f = L) (x : S128.Idx) (hn : n < 200) (hx : (x 0).val < 128) :
    ((l.slice (Rect.unit (s := S200x128) off S1x128.size inb) hst).squeeze S128 squeezes_S1x128_S128).view.read (Elt F) f x
      = L (at2 n (x 0).val hn hx) := by
  subst ho hf
  have e : Shape.reshapeEquiv squeezes_S1x128_S128.numel_eq x = (Fin.cons ⟨0, Nat.one_pos⟩ x : S1x128.Idx) := Shape.reshapeEquiv_cons_one (d := ![128]) _ _
  show l.view.read (Elt F) f ((Rect.unit (s := S200x128) ![n, 0] S1x128.size inb).idx (Shape.reshapeEquiv squeezes_S1x128_S128.numel_eq x)) = _
  rw [e]
  refine congrArg _ (funext fun a => ?_)
  match a with
  | 0 => exact Fin.ext (by show n + 1 * 0 = n; omega)
  | 1 => exact Fin.ext (by show 0 + 1 * (x 0).val = (x 0).val; omega)

/-- The row's own elements are among the list's. -/
theorem list_row_sub {off : Fin 2 → ℕ} {inb : ∀ a, off a + S1x128.size a ≤ S200x128.size a} {hst} :
    ((l.slice (Rect.unit (s := S200x128) off S1x128.size inb) hst).squeeze S128 squeezes_S1x128_S128).view.set ⊆ l.view.set :=
  (View.set_reshape (l.view.slice (Rect.unit (s := S200x128) off S1x128.size inb)) squeezes_S1x128_S128.numel_eq).subset.trans (View.set_slice_subset l.view _)

/-- What the gather of list row `n` brings: the table's rows it names. -/
theorem gather_rows {T : S100000x128.Idx → Elt F .f32} {L : S200x128.Idx → BitVec 32} {g : S128.Idx → Elt F .i32} {n : ℕ} (hn : n < 200)
    (hg : S100000x128.Gathers 0 S128x128) (hs : S128.numel = S128x128.size hg.axis')
    (hgL : ∀ (x : S128.Idx) (hx : (x 0).val < 128), g x = L (at2 n (x 0).val hn hx)) (hin : ∀ x, (g x).toNat < S100000x128.size hg.axis) :
    SparseCore.gatherPayload hg T (SparseCore.rows g hs hin) = rowsOf T L n := by
  funext x
  have h0 : (x 0).val < 128 := (x 0).isLt
  have h1 : (x 1).val < 128 := (x 1).isLt
  unfold SparseCore.gatherPayload
  have ek : (S128.rowMajor.symm ((x hg.axis').cast hs.symm) 0).val = (x 0).val := by
    rw [← Shape.rowMajor_val_one, Equiv.apply_symm_apply]; rfl
  have e : (SparseCore.rows g hs hin (x hg.axis')).val = (idxAt L n (x 0).val).toNat := by
    show (g (S128.rowMajor.symm ((x hg.axis').cast hs.symm))).toNat = _
    rw [hgL _ (by rw [ek]; exact h0)]
    unfold idxAt
    rw [dif_pos ⟨hn, h0⟩]
    have aux : ∀ k (hk : k < 128), k = (x 0).val → L (at2 n k hn hk) = L (at2 n (x 0).val hn h0) := by rintro k hk rfl; rfl
    rw [aux _ _ ek]
  have hr : (idxAt L n (x 0).val).toNat < 100000 := by rw [← e]; exact (SparseCore.rows g hs hin (x hg.axis')).isLt
  show _ = tabAt T (idxAt L n (x 0).val).toNat (x 1).val
  unfold tabAt
  rw [dif_pos ⟨hr, h1⟩]
  refine congrArg T (funext fun a => ?_)
  match a with
  | 0 =>
    refine Fin.ext ?_
    have := Shape.Gathers.idx_axis hg (SparseCore.rows g hs hin) x
    exact (congrArg Fin.val this).trans e
  | 1 => exact Fin.ext (Shape.Gathers.idx_of_ne hg (SparseCore.rows g hs hin) x 1 (by decide))

/-- Issue the gather of chunk `n`. -/
theorem gather_step {Q : α → sProp 𝕄} {off : Fin 2 → ℕ} {inb : ∀ a, off a + S1x128.size a ≤ S200x128.size a} {hst} {n : ℕ} {hw hr}
    {K : PUnit → TProg F i α} {X : sProp 𝕄} (ho : off = ![n, 0]) (hn : n < 200)
    (hcr : ∀ h : S100000x128.Gathers 0 S128x128, ∑ j, (B.b.slice (S128x128.rowRect h.axis' j) (S128x128.stride_rowRect h.axis' j)).view.dmaCredit = B.b.view.dmaCredit)
    (hin : ∀ x, (L x).toNat < 100000)
    (h : iprop(GF d i tb l T L B n ∗ X) ⊢ wpT defs d i (K ⟨⟩) Q) :
    iprop((∃ G, hold d i B.b fullShare G) ∗ Tok d i tb l T L B ∗ semVal (thr d i, SemLoc.dma B.gs) 0 ∗ semVal (thr d i, SemLoc.dma B.ss) 0 ∗ X)
      ⊢ wpT defs d i (SparseCore.enqueueIndirectGather rfl tb B.b gathers_S100000x128_S128x128
          ((l.slice (Rect.unit (s := S200x128) off S1x128.size inb) hst).squeeze S128 squeezes_S1x128_S128) rfl B.gs hw rfl (Or.inl rfl) hr >>= K) Q := by
  unfold wpT at *
  unfold Tok hold
  iintro ⟨⟨%G, %f, -, Hb⟩, ⟨⟨%ft, %hT, Ht⟩, ⟨%fl, %hL, Hl⟩⟩, Hg, Hs, HX⟩
  have hgL := fun x (hx : (x 0).val < 128) => list_row (d := d) (i := i) (l := l) (L := L) (inb := inb) (hst := hst) ho hL x hn hx
  have hin' : ∀ x, (((l.slice (Rect.unit (s := S200x128) off S1x128.size inb) hst).squeeze S128 squeezes_S1x128_S128).view.read (Elt F) fl x).toNat < 100000 :=
    fun x => by rw [hgL x (x 0).isLt]; exact hin _
  ihave Hl' := (pointsTo_split_subset (q := B.ql) (f := fl) (list_row_sub (l := l) (off := off) (inb := inb) (hst := hst))).1 $$ Hl
  icases Hl' with ⟨Hl1, Hl2⟩
  iapply (SparseCore.wp_indirectGatherLocal countersEmb Variants.none (thr d i) none (hg := gathers_S100000x128_S128x128) (default : HIx 1)
    B.b.view.dmaCredit (hcr _) (by decide) hin') $$ [Ht Hb Hl1 Hg]
  · isplitl [Ht]; · iexact Ht
    isplitl [Hb]; · iexact Hb
    isplitl [Hl1]; · iexact Hl1
    iexact Hg
  iintro HF
  iapply h
  isplitr [HX]
  swap; · iexact HX
  unfold GF
  iexists _, _
  isplitr
  swap
  · isplitl [HF]; · iexact HF
    isplitl [Hl2]; · iexact Hl2
    iexact Hs
  ipureintro
  iintro ⟨⟨Hb, Ht, Hl1⟩, Hl2⟩
  isplitl [Hb]
  · iapply (hold_of (q := fullShare) (by rw [View.read_write_univ, hT]; exact gather_rows hn gathers_S100000x128_S128x128 rfl hgL hin')) $$ Hb
  unfold Tok
  isplitl [Ht]
  · iapply (hold_of hT) $$ Ht
  iapply (hold_of hL)
  iapply (pointsTo_split_subset (q := B.ql) (f := fl) (list_row_sub (l := l) (off := off) (inb := inb) (hst := hst))).2
  isplitl [Hl1] <;> iassumption

/-- Wait for the gather of chunk `n`. -/
theorem wait_gather {Q : α → sProp 𝕄} {n : ℕ} {srcw : Memref sig .scVector .hbm S100000x128 .f32} {hw hw'} {K : PUnit → TProg F i α} {X : sProp 𝕄}
    (h : iprop(hold d i B.b fullShare (rowsOf T L n) ∗ Tok d i tb l T L B ∗ semVal (thr d i, SemLoc.dma B.gs) 0 ∗ semVal (thr d i, SemLoc.dma B.ss) 0
      ∗ Ow d i O W ∗ X) ⊢ wpT defs d i (K ⟨⟩) Q) :
    iprop(GF d i tb l T L B n ∗ Ow d i O W ∗ X) ⊢ wpT defs d i (SparseCore.waitIndirectGather B.gs srcw B.b hw hw' >>= K) Q := by
  unfold wpT at *
  unfold GF Ow
  iintro ⟨⟨%D, %R, %hD, HF, HR, Hs⟩, ⟨%W', %hW, HO, #Hmw⟩, HX⟩
  iapply (Transfers.wp_waitLocalO countersEmb Variants.none (thr d i) none (default : HIx 1) rfl) $$ [HF HO]
  · isplitl [HF]; · iexact HF
    isplitl [HO]; · iexact HO
    iapply (Transfers.MayWaits.elim (.dma B.gs)) $$ Hmw
  iintro ⟨HD, Hg, HO⟩
  iapply h
  ihave H := hD $$ [HD HR]
  · isplitl [HD] <;> iassumption
  icases H with ⟨Hb, Ht⟩
  unfold Ow
  iframe
  iexists _
  isplitr
  swap; · isplitl [HO]; · iexact HO
          iexact Hmw
  ipureintro
  intro p hp
  rcases Finset.mem_insert.mp hp with rfl | hp
  · exact Or.inr rfl
  · exact hW p hp

/-- Issue the store of chunk `n`. -/
theorem store_step {Q : α → sProp 𝕄} {n : ℕ} {off : Fin 2 → ℕ} {inb : ∀ a, off a + S128x128.size a ≤ S819200x128.size a} {hst} {hw hw' ht}
    {K : PUnit → TProg F i α} {X : sProp 𝕄} (ho : off = pieceOff i n)
    (h : iprop(SF d i tb l o T L B n ∗ X) ⊢ wpT defs d i (K ⟨⟩) Q) :
    iprop(hold d i B.b fullShare (chunk T L n) ∗ Tok d i tb l T L B ∗ semVal (thr d i, SemLoc.dma B.gs) 0 ∗ semVal (thr d i, SemLoc.dma B.ss) 0
        ∗ Free d i o n ∗ X)
      ⊢ wpT defs d i (Prog.lift (.enqueueDma B.b (.here (o.slice (Rect.unit (s := S819200x128) off S128x128.size inb) hst)) (.dma B.ss) hw hw' ht) >>= K) Q := by
  unfold wpT at *
  subst ho
  unfold Free hold
  iintro ⟨⟨%f, %hf, Hb⟩, Ht, Hg, Hs, ⟨%hp, %G, %fo, -, Hp⟩, HX⟩
  iapply (Transfers.wp_dmaLocal countersEmb Variants.none (thr d i) none (default : HIx 1) (piece i o n hp).view.dmaCredit rfl
    (View.dmaCredit_pos _ (by decide)) (Finset.Subset.refl _)) $$ [Hb Hp Hs]
  · isplitl [Hb]; · iexact Hb
    isplitl [Hp]; · iexact Hp
    iexact Hs
  iintro HF
  iapply h
  isplitr [HX]
  swap; · iexact HX
  unfold SF
  iexists _
  isplitr
  swap
  · isplitl [HF]
    · iexists hp; iexact HF
    isplitl [Ht] <;> iassumption
  ipureintro
  iintro ⟨Hp, Hb⟩
  isplitl [Hp]
  · unfold Full
    iexists hp
    iapply (hold_of (b := piece i o n hp) (q := fullShare) (by rw [View.read_write_univ]; exact hf)) $$ Hp
  · iexists _
    iapply (hold_of hf) $$ Hb

/-- Wait for the store of chunk `n`. -/
theorem wait_store {Q : α → sProp 𝕄} {n : ℕ} {off : Fin 2 → ℕ} {inb : ∀ a, off a + S128x128.size a ≤ S819200x128.size a} {hst} {hw hw'}
    {K : PUnit → TProg F i α} {X : sProp 𝕄}
    (h : iprop(Full d i o T L n ∗ (∃ G, hold d i B.b fullShare G) ∗ Tok d i tb l T L B ∗ semVal (thr d i, SemLoc.dma B.gs) 0
      ∗ semVal (thr d i, SemLoc.dma B.ss) 0 ∗ Ow d i O W ∗ X) ⊢ wpT defs d i (K ⟨⟩) Q) :
    iprop(SF d i tb l o T L B n ∗ Ow d i O W ∗ X)
      ⊢ wpT defs d i (Prog.lift (.waitDma2 B.ss B.b (o.slice (Rect.unit (s := S819200x128) off S128x128.size inb) hst) hw hw') >>= K) Q := by
  unfold wpT at *
  unfold SF Ow
  iintro ⟨⟨%D, %hD, ⟨%hp, HF⟩, Ht, Hg⟩, ⟨%W', %hW, HO, #Hmw⟩, HX⟩
  iapply (Transfers.wp_waitLocalO countersEmb Variants.none (thr d i) none (default : HIx 1) rfl) $$ [HF HO]
  · isplitl [HF]; · iexact HF
    isplitl [HO]; · iexact HO
    iapply (Transfers.MayWaits.elim (.dma B.ss)) $$ Hmw
  iintro ⟨HD, Hs, HO⟩
  iapply h
  ihave H := hD $$ HD
  icases H with ⟨Hf, Hb⟩
  unfold Ow
  iframe
  iexists _
  isplitr
  swap; · isplitl [HO]; · iexact HO
          iexact Hmw
  ipureintro
  intro p hp
  rcases Finset.mem_insert.mp hp with rfl | hp
  · exact Or.inr rfl
  · exact hW p hp

end Steps

end Flow

end Cert.KernelIdeal.Tile
-- ==== Proof.KernelIdeal.Count.lean ====
/-
  How many of a chunk's entries are the padding index: the kernel adds up, lane by lane, eight vectors of ones and
  zeros, sums the sixteen lanes, and clears rows only if the sum is positive. All the proof needs of the sum is
  whether it is zero; the count of each lane is at most eight, so nothing wraps.
-/
module

public import proofs.«01_k».proof.Proof.KernelIdeal.Rows

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [Facts] [FloatOps F]
open K0.Facts₀ Shapes1.Facts₀ Shapes2.Facts₀ Facts

local notation "𝕄" => MT nD τ sig (HIx 1) (Elt F) ℕ UU ℕ

/-- Lane by lane, `v` counts the entries among the first `g` groups of sixteen that satisfy `P`. -/
def Cnt (v : IVec S16 32) (g : ℕ) (P : ℕ → Prop) : Prop :=
  ∀ j (hj : j < 16), (v (lane j hj)).toNat ≤ g ∧ ((v (lane j hj)).toNat ≠ 0 ↔ ∃ k, k < g ∧ P (16 * k + j))

/-- The mask of the lanes from `n` on that satisfy `P`. -/
def Msk (m : IVec S16 1) (n : ℕ) (P : ℕ → Prop) : Prop := ∀ j (hj : j < 16), m (lane j hj) = 1#1 ↔ P (n + j)

theorem cnt_zero {P : ℕ → Prop} : Cnt (broadcast S16 0#32) 0 P := fun j hj => by
  show (0#32).toNat ≤ 0 ∧ ((0#32).toNat ≠ 0 ↔ _)
  simp

/-- Sixteen indices compared with the padding index. -/
theorem msk_load {raw : IVec S16 32} {n : ℕ} {P : ℕ → Prop} (h : ∀ j (hj : j < 16), raw (lane j hj) = 99999#32 ↔ P (n + j)) :
    Msk (cmpi .eq raw (broadcast S16 99999#32)) n P := fun j hj => by
  rw [← h j hj]
  show BitVec.ofBool (raw (lane j hj) == 99999#32) = 1#1 ↔ _
  by_cases e : raw (lane j hj) = 99999#32
  · simp [e]
  · rw [beq_eq_false_iff_ne.mpr e]; simp [e]

/-- One more group counted. -/
theorem cnt_step {v : IVec S16 32} {m : IVec S16 1} {g : ℕ} {P : ℕ → Prop} (hv : Cnt v g P) (hm : Msk m (16 * g) P) (hg : g < 8) :
    Cnt (addi v (select m (broadcast S16 1#32) (broadcast S16 0#32))) (g + 1) P := fun j hj => by
  obtain ⟨hle, hiff⟩ := hv j hj
  have hmj := hm j hj
  have e : (addi v (select m (broadcast S16 1#32) (broadcast S16 0#32))) (lane j hj)
      = v (lane j hj) + (if m (lane j hj) = 1#1 then 1#32 else 0#32) := rfl
  rw [e]
  by_cases h : m (lane j hj) = 1#1
  · rw [if_pos h]
    have hn : (v (lane j hj) + 1#32).toNat = (v (lane j hj)).toNat + 1 := by
      rw [BitVec.toNat_add]; exact Nat.mod_eq_of_lt (by simp; omega)
    rw [hn]
    exact ⟨by omega, fun _ => ⟨g, by omega, hmj.mp h⟩, fun _ => by omega⟩
  · rw [if_neg h, BitVec.add_zero]
    refine ⟨by omega, hiff.trans ⟨fun ⟨k, hk, hp⟩ => ⟨k, by omega, hp⟩, fun ⟨k, hk, hp⟩ => ⟨k, ?_, hp⟩⟩⟩
    rcases Nat.lt_succ_iff_lt_or_eq.mp hk with h' | rfl
    · exact h'
    · exact absurd (hmj.mpr hp) h

/-- A sum of words that are at most eight each does not wrap. -/
theorem fold_toNat {f : Fin 16 → BitVec 32} (hf : ∀ k, (f k).toNat ≤ 8) : ∀ (ks : List (Fin 16)) (r : BitVec 32), r.toNat + 8 * ks.length < 1000 →
    (ks.foldl (fun r k => ScanKind.sum.step r (f k)) r).toNat = r.toNat + (ks.map fun k => (f k).toNat).sum
  | [], r, _ => by simp
  | k :: ks, r, h => by
    have hk := hf k
    simp only [List.length_cons] at h
    have hn : (r + f k).toNat = r.toNat + (f k).toNat := by
      rw [BitVec.toNat_add]; exact Nat.mod_eq_of_lt (by omega)
    have := fold_toNat hf ks (r + f k) (by omega)
    simp only [List.foldl_cons, List.map_cons, List.sum_cons]
    show (ks.foldl (fun r k => ScanKind.sum.step r (f k)) (r + f k)).toNat = _
    rw [this, hn]; omega

/-- The lanes after the first, in order. -/
abbrev restLanes : List (Fin 16) := (List.finRange 16).filter fun k => decide (0 < k.val ∧ k.val ≤ 15)

/-- Their sum with the first's is zero exactly if all are. -/
theorem fold_any {f : Fin 16 → BitVec 32} {P : ℕ → Prop} (hf : ∀ k, (f k).toNat ≤ 8)
    (hz : ∀ k, (f k).toNat ≠ 0 ↔ ∃ g, g < 8 ∧ P (16 * g + k.val)) :
    (restLanes.foldl (fun r k => ScanKind.sum.step r (f k)) (f 0)).toNat ≤ 128
      ∧ ((restLanes.foldl (fun r k => ScanKind.sum.step r (f k)) (f 0)).toNat ≠ 0 ↔ ∃ j, j < 128 ∧ P j) := by
  have hlen : restLanes.length = 15 := by decide
  have hmem : ∀ k : Fin 16, k = 0 ∨ k ∈ restLanes := by decide
  generalize restLanes = ks at hlen hmem ⊢
  have h0 := hf 0
  have e := fold_toNat hf ks (f 0) (by rw [hlen]; omega)
  have hsum : (ks.map fun k => (f k).toNat).sum ≤ 120 := by
    have := List.sum_le_card_nsmul (ks.map fun k => (f k).toNat) 8 (by
      intro x hx; obtain ⟨k, -, rfl⟩ := List.mem_map.mp hx; exact hf k)
    rw [List.length_map, hlen] at this; simpa using this
  rw [e]
  refine ⟨by omega, fun h => ?_, ?_⟩
  · have : ∃ k : Fin 16, (f k).toNat ≠ 0 := by
      by_contra hc
      push Not at hc
      refine h ?_
      rw [hc, List.map_congr_left (fun k _ => hc k)]
      simp
    obtain ⟨k, hk⟩ := this
    obtain ⟨g, hg, hP⟩ := (hz k).mp hk
    exact ⟨16 * g + k.val, by omega, hP⟩
  · rintro ⟨j, hj, hP⟩ h
    have hk := (hz ⟨j % 16, Nat.mod_lt _ (by omega)⟩).mpr ⟨j / 16, by omega, by
      show P (16 * (j / 16) + j % 16); rw [Nat.div_add_mod]; exact hP⟩
    rcases hmem ⟨j % 16, Nat.mod_lt _ (by omega)⟩ with e0 | hm
    · rw [e0] at hk; omega
    · have := List.single_le_sum (l := ks.map fun k => (f k).toNat) (fun x _ => Nat.zero_le x) _ (List.mem_map_of_mem hm)
      omega

/-- The last lane of the running sum is the sum of all lanes. -/
theorem scan_last (v : IVec S16 32) {hp} : extractAt ![15] (scan .sum v : IVec S16 32) hp
    = restLanes.foldl (fun r k => ScanKind.sum.step r (v (lane k.val k.isLt))) (v (lane (0 : Fin 16).val (0 : Fin 16).isLt)) := by
  unfold extractAt scan
  rfl

/-- THE KERNEL'S TEST of a chunk: the sum of the lane counts is positive exactly if some entry is padding. -/
theorem any_iff {v : IVec S16 32} {P : ℕ → Prop} {hp} (hv : Cnt v 8 P) :
    Scalar.cmpi .ne (Scalar.extui (Scalar.cmpi .sgt (extractAt ![15] (scan .sum v : IVec S16 32) hp) 0#32)) 0#32 = 1#1 ↔ ∃ j, j < 128 ∧ P j := by
  obtain ⟨hle, hany⟩ := fold_any (f := fun k => v (lane k.val k.isLt)) (P := P) (fun k => (hv k.val k.isLt).1) (fun k => (hv k.val k.isLt).2)
  rw [← scan_last v (hp := hp)] at hle hany
  rw [← hany]
  generalize extractAt ![15] (scan .sum v : IVec S16 32) hp = w at hle ⊢
  have key : Scalar.cmpi .sgt w 0#32 = BitVec.ofBool (decide (w.toNat ≠ 0)) := by
    show BitVec.ofBool (BitVec.slt 0#32 w) = _
    congr 1
    rw [BitVec.slt_eq_decide, BitVec.toInt_eq_toNat_of_lt (x := w) (by omega)]
    exact decide_eq_decide.mpr (by rw [show (0#32).toInt = 0 from rfl]; omega)
  rw [key]
  by_cases h : w.toNat ≠ 0
  · rw [decide_eq_true h]; exact iff_of_true (by decide) h
  · rw [decide_eq_false h]; exact iff_of_false (by decide) h

section Steps

variable {defs : Defs nD τ sig (Elt F) Λ₀} {d : Dev nD} {i : grid0.Coords} {α : Type}

/-- The clearing of a chunk, behind the test whether anything is to be cleared: what follows is proved once, after
    all 128 rows, and serves both ways. -/
theorem clear_ite {Q : α → sProp 𝕄} {b : Memref sig .scVector .vmem S128x128 .f32} {G : S128x128.Idx → Elt F .f32} {P : ℕ → Prop}
    {cnd : BitVec 1} {T E : TProg F i α} {X : sProp 𝕄} (hc : cnd = 1#1 ↔ ∃ j, j < 128 ∧ P j)
    (he : iprop(hold d i b fullShare (cleared P 128 G) ∗ X) ⊢ wpT defs d i E Q)
    (ht : (iprop(hold d i b fullShare (cleared P 128 G) ∗ X) ⊢ wpT defs d i E Q)
      → iprop(hold d i b fullShare (cleared P 0 G) ∗ X) ⊢ wpT defs d i T Q) :
    iprop(hold d i b fullShare G ∗ X) ⊢ wpT defs d i (if cnd = 1#1 then T else E) Q := by
  by_cases h : cnd = 1#1
  · rw [if_pos h]
    have := ht he
    rwa [cleared_zero] at this
  · rw [if_neg h]
    have e : cleared P 128 G = G := by
      funext x
      unfold cleared
      rw [if_neg]
      rintro ⟨h1, h2⟩
      exact h (hc.mpr ⟨_, h1, h2⟩)
    rwa [e] at he

end Steps

end Cert.KernelIdeal.Tile
-- ==== Proof.KernelIdeal.Trip.lean ====
/-
  The four steps of a chunk, arranged as the loop takes them: one buffer at the front of the state, the pieces of the
  result beside it, the other three buffers behind; and the refill, which puts a stored buffer back to gathering.
-/
module

public import proofs.«01_k».proof.Proof.KernelIdeal.Flow
public import proofs.«01_k».proof.Proof.KernelIdeal.Count

@[expose] public section

noncomputable section

namespace Cert.KernelIdeal.Tile

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

section Trip

variable (d : Dev nD) (i : grid0.Coords) (tb : Memref sig .scVector .hbm S100000x128 .f32) (l : Memref sig .scVector .vmem S200x128 .i32)
  (o : Memref sig .scVector .hbm S819200x128 .f32) (T : S100000x128.Idx → Elt F .f32) (L : S200x128.Idx → BitVec 32)
  (O : CellTallies nD τ sig (HIx 1)) (W : Waits sig (HIx 1))

/-- The pieces of the result from chunk `m` on, untouched, and those below chunk `k`, stored. -/
def UD (m k : ℕ) : sProp 𝕄 :=
  iprop(bigSep (Finset.Ico m 200) (fun n => Free (F := F) d i o n) ∗ bigSep (Finset.range k) (fun n => Full d i o T L n))

/-- What stays aside while a buffer is worked on: its share of the table, its semaphores, the subcore's dues. -/
def Aside (B : Slot) : sProp 𝕄 :=
  iprop(hold d i tb B.qt T ∗ semVal (thr d i, SemLoc.dma B.gs) 0 ∗ semVal (thr d i, SemLoc.dma B.ss) 0 ∗ Ow d i O W)

variable {d i tb l o T L O W} {defs : Defs nD τ sig (Elt F) Λ₀} {α : Type} {B : Slot}

theorem pad_iff_at {n : ℕ} (hn : n < 200) (j : ℕ) (hj : j < 128) : L (at2 n j hn hj) = 99999#32 ↔ padAt L n j := by
  unfold padAt idxAt; rw [dif_pos ⟨hn, hj⟩]

/-- An offset is what its closed form comes to. -/
theorem closed {n : ℕ} {off v : Fin n → ℕ} [h : ClosedOff off] (e : h.form = v) : off = v := h.eq.trans e

/-- The state one place on: the front buffer goes behind the others. -/
theorem turn {A O' Z B' C D : sProp 𝕄} : iprop(A ∗ O' ∗ Z ∗ B' ∗ C ∗ D) ⊢ iprop(B' ∗ O' ∗ Z ∗ C ∗ D ∗ A) := by
  iintro ⟨H1, H2, H3, H4, H5, H6⟩
  iframe

theorem take_front {G O' Z : sProp 𝕄} {n : ℕ} :
    iprop(hold d i B.b fullShare (rowsOf T L n) ∗ Tok d i tb l T L B ∗ semVal (thr d i, SemLoc.dma B.gs) 0 ∗ semVal (thr d i, SemLoc.dma B.ss) 0
      ∗ Ow d i O W ∗ Z)
    ⊢ iprop(hold d i B.b fullShare (rowsOf T L n) ∗ hold d i l B.ql L ∗ Aside d i tb T O W B ∗ Z) := by
  unfold Tok Aside
  iintro ⟨H1, ⟨H2, H3⟩, H4, H5, H6, H7⟩
  iframe

/-- Wait for the front buffer's gather. -/
theorem front_wait {Q : α → sProp 𝕄} {n : ℕ} {srcw : Memref sig .scVector .hbm S100000x128 .f32} {hw hw'} {K : PUnit → TProg F i α} {X : sProp 𝕄}
    (h : iprop(hold d i B.b fullShare (rowsOf T L n) ∗ hold d i l B.ql L ∗ Aside d i tb T O W B ∗ X) ⊢ wpT defs d i (K ⟨⟩) Q) :
    iprop(GF d i tb l T L B n ∗ Ow d i O W ∗ X) ⊢ wpT defs d i (SparseCore.waitIndirectGather B.gs srcw B.b hw hw' >>= K) Q :=
  wait_gather ((take_front (G := iprop(emp)) (O' := iprop(emp))).trans h)

theorem free_pop {n k : ℕ} (hn : n < 200) {X : sProp 𝕄} :
    iprop(hold d i B.b fullShare (chunk T L n) ∗ hold d i l B.ql L ∗ Aside d i tb T O W B ∗ UD d i o T L n k ∗ X)
    ⊢ iprop(hold d i B.b fullShare (chunk T L n) ∗ Tok d i tb l T L B ∗ semVal (thr d i, SemLoc.dma B.gs) 0 ∗ semVal (thr d i, SemLoc.dma B.ss) 0
        ∗ Free d i o n ∗ (Ow d i O W ∗ UD d i o T L (n + 1) k ∗ X)) := by
  unfold Tok Aside UD
  rw [SparseCore.bigSep_erase' (Finset.mem_Ico.mpr ⟨le_refl n, hn⟩),
    show (Finset.Ico n 200).erase n = Finset.Ico (n + 1) 200 from by ext x; simp only [Finset.mem_erase, Finset.mem_Ico]; omega]
  iintro ⟨H1, H2, ⟨H3, H4, H5, H6⟩, ⟨⟨H7, H8⟩, H9⟩, H10⟩
  iframe

/-- Issue the front buffer's store. -/
theorem front_store {Q : α → sProp 𝕄} {n k : ℕ} {off : Fin 2 → ℕ} {inb : ∀ a, off a + S128x128.size a ≤ S819200x128.size a} {hst} {hw hw' ht}
    {K : PUnit → TProg F i α} {X : sProp 𝕄} (ho : off = pieceOff i n) (hn : n < 200)
    (h : iprop(SF d i tb l o T L B n ∗ Ow d i O W ∗ UD d i o T L (n + 1) k ∗ X) ⊢ wpT defs d i (K ⟨⟩) Q) :
    iprop(hold d i B.b fullShare (chunk T L n) ∗ hold d i l B.ql L ∗ Aside d i tb T O W B ∗ UD d i o T L n k ∗ X)
      ⊢ wpT defs d i (Prog.lift (.enqueueDma B.b (.here (o.slice (Rect.unit (s := S819200x128) off S128x128.size inb) hst)) (.dma B.ss) hw hw' ht) >>= K) Q :=
  (free_pop hn).trans (store_step ho h)

theorem full_push {n m : ℕ} {X : sProp 𝕄} :
    iprop(Full d i o T L n ∗ (∃ G, hold d i B.b fullShare G) ∗ Tok d i tb l T L B ∗ semVal (thr d i, SemLoc.dma B.gs) 0
      ∗ semVal (thr d i, SemLoc.dma B.ss) 0 ∗ Ow d i O W ∗ UD d i o T L m n ∗ X)
    ⊢ iprop((∃ G, hold d i B.b fullShare G) ∗ Tok d i tb l T L B ∗ semVal (thr d i, SemLoc.dma B.gs) 0
      ∗ semVal (thr d i, SemLoc.dma B.ss) 0 ∗ (Ow d i O W ∗ UD d i o T L m (n + 1) ∗ X)) := by
  unfold UD
  rw [SparseCore.bigSep_erase' (s := Finset.range (n + 1)) (Finset.mem_range.mpr (Nat.lt_succ_self n)),
    show (Finset.range (n + 1)).erase n = Finset.range n from by ext x; simp only [Finset.mem_erase, Finset.mem_range]; omega]
  iintro ⟨H1, H2, H3, H4, H5, H6, ⟨H7, H8⟩, H9⟩
  iframe

/-- Wait for the front buffer's store. -/
theorem front_done {Q : α → sProp 𝕄} {n m : ℕ} {off : Fin 2 → ℕ} {inb : ∀ a, off a + S128x128.size a ≤ S819200x128.size a} {hst} {hw hw'}
    {K : PUnit → TProg F i α} {X : sProp 𝕄}
    (h : iprop((∃ G, hold d i B.b fullShare G) ∗ Tok d i tb l T L B ∗ semVal (thr d i, SemLoc.dma B.gs) 0
      ∗ semVal (thr d i, SemLoc.dma B.ss) 0 ∗ (Ow d i O W ∗ UD d i o T L m (n + 1) ∗ X)) ⊢ wpT defs d i (K ⟨⟩) Q) :
    iprop(SF d i tb l o T L B n ∗ Ow d i O W ∗ UD d i o T L m n ∗ X)
      ⊢ wpT defs d i (Prog.lift (.waitDma2 B.ss B.b (o.slice (Rect.unit (s := S819200x128) off S128x128.size inb) hst) hw hw') >>= K) Q :=
  wait_store (full_push.trans h)

/-- THE REFILL: where the condition holds, wait for the front buffer's store and gather its next chunk into it. -/
theorem refill {Q : α → sProp 𝕄} {c : BitVec 1} {n n' m k k' : ℕ} {off off' : Fin 2 → ℕ}
    {inb : c = 1#1 → ∀ a, off a + S128x128.size a ≤ S819200x128.size a} {inb' : c = 1#1 → ∀ a, off' a + S1x128.size a ≤ S200x128.size a}
    {hst : ∀ hc a, (Rect.unit (s := S819200x128) off S128x128.size (inb hc)).stride a = 1}
    {hst' : ∀ hc a, (Rect.unit (s := S200x128) off' S1x128.size (inb' hc)).stride a = 1} {hw hw'' hr} {hw' : ∀ hc, (o.slice (Rect.unit (s := S819200x128) off S128x128.size (inb hc)) (hst hc)).view.WordExact} {K : TProg F i α} {X Z Z' : sProp 𝕄}
    (hcr : ∀ h : S100000x128.Gathers 0 S128x128, ∑ j, (B.b.slice (S128x128.rowRect h.axis' j) (S128x128.stride_rowRect h.axis' j)).view.dmaCredit = B.b.view.dmaCredit)
    (hin : ∀ x, (L x).toNat < 100000)
    (hy : c = 1#1 → Z = SF d i tb l o T L B n ∧ Z' = GF d i tb l T L B n' ∧ k = n ∧ k' = n + 1 ∧ n' < 200 ∧ off' = ![n', 0])
    (hn : c ≠ 1#1 → Z' = Z ∧ k' = k)
    (h : iprop(Z' ∗ Ow d i O W ∗ UD d i o T L m k' ∗ X) ⊢ wpT defs d i K Q) :
    iprop(Z ∗ Ow d i O W ∗ UD d i o T L m k ∗ X)
      ⊢ wpT defs d i (if hc : c = 1#1 then
          (Prog.lift (.waitDma2 B.ss B.b (o.slice (Rect.unit (s := S819200x128) off S128x128.size (inb hc)) (hst hc)) hw (hw' hc)) >>= fun _ =>
            SparseCore.enqueueIndirectGather rfl tb B.b gathers_S100000x128_S128x128
              ((l.slice (Rect.unit (s := S200x128) off' S1x128.size (inb' hc)) (hst' hc)).squeeze S128 squeezes_S1x128_S128) rfl B.gs hw'' rfl (Or.inl rfl) hr >>= fun _ => K)
        else K) Q := by
  by_cases hc : c = 1#1
  · obtain ⟨rfl, rfl, rfl, rfl, hn', ho⟩ := hy hc
    rw [dif_pos hc]
    exact front_done (gather_step ho hn' hcr hin h)
  · obtain ⟨rfl, rfl⟩ := hn hc
    rw [dif_neg hc]
    exact h

/-- A buffer with its two semaphores and its shares. -/
abbrev slotOf (b : Memref sig .scVector .vmem S128x128 .f32) (g s : DmaSems sig S_) (qt ql : PosShare TreeShare) : Slot := ⟨b, g.sem, s.sem, qt, ql⟩

variable (d i tb l o T L) in
/-- What buffer `b` holds as trip `t` begins, for the first three: its chunk being gathered, or after the last trip being stored. -/
def BF (B : Slot) (b t : ℕ) : sProp 𝕄 := if t < 50 then GF d i tb l T L B (4 * t + b) else SF d i tb l o T L B (4 * t + b - 4)

variable (d i tb l o T L) in
/-- What the fourth buffer holds as trip `t` begins. -/
def B3 (B : Slot) (t : ℕ) : sProp 𝕄 := if t = 0 then GF d i tb l T L B 3 else SF d i tb l o T L B (4 * t - 1)

end Trip

end Cert.KernelIdeal.Tile
-- ==== Proof.KernelIdeal.PartsA.lean ====
module

public import proofs.«01_k».proof.Proof.KernelIdeal.Trip
public import proofs.«01_k».proof.Proof.Gen.KernelIdeal

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

/-- The table as the copies name it: all of it. -/
abbrev tbl (a : Memref sig .scVector .hbm S100000x128 .f32) : Memref sig .scVector .hbm S100000x128 .f32 :=
  a.slice (Rect.unit (s := S100000x128) ![0, 0] S100000x128.size inb_S100000x128_S100000x128_0_0) (fun _ => rfl)

attribute [local irreducible] wpT

section Parts

variable {d : Dev nD} {i : grid0.Coords} {arg2 : Memref sig .scVector .hbm S6400x128 .i32} {harg2 : arg2.IsWhole}
  {arg3 : Memref sig .scVector .hbm S100000x128 .f32} {harg3 : arg3.IsWhole} {arg4 : Memref sig .scVector .hbm S819200x128 .f32}
  {harg4 : arg4.IsWhole} {arg5 : Memref sig .scVector .vmem S200x128 .i32} {harg5 : arg5.IsWhole}
  {arg6 : Memref sig .scVector .vmem S128x128 .f32} {harg6 : arg6.IsWhole} {arg7 : Memref sig .scVector .vmem S128x128 .f32} {harg7 : arg7.IsWhole}
  {arg8 : Memref sig .scVector .vmem S128x128 .f32} {harg8 : arg8.IsWhole} {arg9 : Memref sig .scVector .vmem S128x128 .f32} {harg9 : arg9.IsWhole}
  {arg10 arg11 arg12 arg13 arg14 arg15 arg16 arg17 v29_r0 : DmaSems sig S_} {k0_t1 : Fin k0_t1_loop.trips}
  {T : S100000x128.Idx → Elt F .f32} {L : S200x128.Idx → BitVec 32} {O : CellTallies nD τ sig (HIx 1)} {W : Waits sig (HIx 1)}
  {qt ql : Fin 4 → PosShare TreeShare} {defs : Defs nD τ sig (Elt F) Λ₀} {α : Type}

theorem cond1_iff : ∀ t : Fin k0_t1_loop.trips, k0_cond1 t = 1#1 ↔ 0 < t.val := by decide +kernel

/-- The fourth buffer refilled, the first one's gather waited for, its first groups counted. -/
theorem part69_step {Q : α → sProp 𝕄} {v2 c0 c1 : BitVec 32} {K : _ → TProg F i α} {C1 C2 : sProp 𝕄}
    (ht : k0_t1.val < 50) (hin : ∀ x, (L x).toNat < 100000)
    (hcr : ∀ h : S100000x128.Gathers 0 S128x128, ∑ j, (arg9.slice (S128x128.rowRect h.axis' j) (S128x128.stride_rowRect h.axis' j)).view.dmaCredit = arg9.view.dmaCredit)
    (h : ∀ v29 v30 v m, Cnt v 2 (padAt L (4 * k0_t1.val)) → Msk m 32 (padAt L (4 * k0_t1.val)) →
      iprop(hold d i arg6 fullShare (rowsOf T L (4 * k0_t1.val)) ∗ hold d i arg5 (ql 0) L
        ∗ Aside d i (tbl arg3) T O W (slotOf arg6 arg10 arg14 (qt 0) (ql 0)) ∗ UD d i arg4 T L (4 * k0_t1.val) (4 * k0_t1.val)
        ∗ C1 ∗ C2 ∗ GF d i (tbl arg3) arg5 T L (slotOf arg9 arg13 arg17 (qt 3) (ql 3)) (4 * k0_t1.val + 3)) ⊢ wpT defs d i (K ⟨v29, v30, v, m⟩) Q) :
    iprop(B3 d i (tbl arg3) arg5 arg4 T L (slotOf arg9 arg13 arg17 (qt 3) (ql 3)) k0_t1.val ∗ Ow d i O W
      ∗ UD d i arg4 T L (4 * k0_t1.val) (4 * k0_t1.val - 1)
      ∗ GF d i (tbl arg3) arg5 T L (slotOf arg6 arg10 arg14 (qt 0) (ql 0)) (4 * k0_t1.val) ∗ C1 ∗ C2)
    ⊢ wpT defs d i (k0_part69 i arg2 harg2 arg3 harg3 arg4 harg4 arg5 harg5 arg6 harg6 arg7 harg7 arg8 harg8 arg9 harg9 arg10 arg11 arg12 arg13 arg14 arg15 arg16 arg17 v29_r0 v2 c0 c1 k0_t1 >>= K) Q := by
  have hP := fun j hj => pad_iff_at (L := L) (n := 4 * k0_t1.val) (by omega) j hj
  refine call_step ?_
  refine refill (B := slotOf arg9 arg13 arg17 (qt 3) (ql 3)) (n := 4 * k0_t1.val - 1) (n' := 4 * k0_t1.val + 3) (k' := 4 * k0_t1.val)
    (Z' := GF d i (tbl arg3) arg5 T L (slotOf arg9 arg13 arg17 (qt 3) (ql 3)) (4 * k0_t1.val + 3)) hcr hin ?_ ?_ ?_
  · intro hc
    have := (cond1_iff k0_t1).mp hc
    exact ⟨if_neg (by omega), rfl, rfl, by omega, by omega, Gen.k0_off3_eq _⟩
  · intro hc
    have h0 : k0_t1.val = 0 := by have := mt (cond1_iff k0_t1).mpr hc; omega
    exact ⟨by unfold B3; rw [if_pos h0, h0], by omega⟩
  refine turn.trans (front_wait ?_)
  refine list_step (Gen.k0_off5_eq _) (by omega) (by decide) hP fun raw0 h0 => ?_
  refine list_step (Gen.k0_off6_eq _) (by omega) (by decide) hP fun raw1 h1 => ?_
  refine list_step (Gen.k0_off7_eq _) (by omega) (by decide) hP fun raw2 h2 => ?_
  refine ret_step ?_
  exact h _ _ _ _ (cnt_step (cnt_step cnt_zero (msk_load h0) (by decide)) (msk_load h1) (by decide)) (msk_load h2)

/-- Five more groups of the first buffer's indices counted. -/
theorem part70_step {Q : α → sProp 𝕄} {v30 : BitVec 32} {v : IVec S16 32} {m : IVec S16 1} {K : _ → TProg F i α} {A X : sProp 𝕄} {q : PosShare TreeShare}
    (ht : k0_t1.val < 50) (hv : Cnt v 2 (padAt L (4 * k0_t1.val))) (hm : Msk m 32 (padAt L (4 * k0_t1.val)))
    (h : ∀ v, Cnt v 7 (padAt L (4 * k0_t1.val)) → iprop(A ∗ hold d i arg5 q L ∗ X) ⊢ wpT defs d i (K v) Q) :
    iprop(A ∗ hold d i arg5 q L ∗ X)
    ⊢ wpT defs d i (k0_part70 i arg2 harg2 arg3 harg3 arg4 harg4 arg5 harg5 arg6 harg6 arg7 harg7 arg8 harg8 arg9 harg9 arg10 arg11 arg12 arg13 arg14 arg15 arg16 arg17 v29_r0 k0_t1 v30 v m >>= K) Q := by
  have hP := fun j hj => pad_iff_at (L := L) (n := 4 * k0_t1.val) (by omega) j hj
  refine call_step ?_
  refine list_step (Gen.k0_off8_eq _) (by omega) (by decide) hP fun raw3 h3 => ?_
  refine list_step (Gen.k0_off9_eq _) (by omega) (by decide) hP fun raw4 h4 => ?_
  refine list_step (Gen.k0_off10_eq _) (by omega) (by decide) hP fun raw5 h5 => ?_
  refine list_step (Gen.k0_off11_eq _) (by omega) (by decide) hP fun raw6 h6 => ?_
  refine ret_step ?_
  refine h _ (cnt_step (cnt_step (cnt_step (cnt_step (cnt_step hv hm ?_) (msk_load h3) ?_) (msk_load h4) ?_) (msk_load h5) ?_) (msk_load h6) ?_) <;> decide

theorem cond131_iff : ∀ t : Fin k0_t1_loop.trips, k0_cond131 t = 1#1 ↔ t.val + 1 < 50 := by decide +kernel

set_option maxHeartbeats 2000000 in
/-- The first buffer's count ended, its padding rows cleared, its store issued; it is refilled, and the second one's gather waited for. -/
theorem part71_step {Q : α → sProp 𝕄} {v2 v29 v30 : BitVec 32} {v : IVec S16 32} {K : _ → TProg F i α} {C2 C3 : sProp 𝕄}
    (ht : k0_t1.val < 50) (hin : ∀ x, (L x).toNat < 100000)
    (hcr : ∀ h : S100000x128.Gathers 0 S128x128, ∑ j, (arg6.slice (S128x128.rowRect h.axis' j) (S128x128.stride_rowRect h.axis' j)).view.dmaCredit = arg6.view.dmaCredit)
    (hv : Cnt v 7 (padAt L (4 * k0_t1.val)))
    (h : ∀ v124 m, Msk m 0 (padAt L (4 * k0_t1.val + 1)) →
      iprop(hold d i arg7 fullShare (rowsOf T L (4 * k0_t1.val + 1)) ∗ hold d i arg5 (ql 1) L
        ∗ Aside d i (tbl arg3) T O W (slotOf arg7 arg11 arg15 (qt 1) (ql 1)) ∗ UD d i arg4 T L (4 * k0_t1.val + 1) (min (4 * k0_t1.val + 1) 196)
        ∗ C2 ∗ C3 ∗ BF d i (tbl arg3) arg5 arg4 T L (slotOf arg6 arg10 arg14 (qt 0) (ql 0)) 0 (k0_t1.val + 1))
      ⊢ wpT defs d i (K ⟨v124, broadcast S16 0#32, m⟩) Q) :
    iprop(hold d i arg6 fullShare (rowsOf T L (4 * k0_t1.val)) ∗ hold d i arg5 (ql 0) L
      ∗ Aside d i (tbl arg3) T O W (slotOf arg6 arg10 arg14 (qt 0) (ql 0)) ∗ UD d i arg4 T L (4 * k0_t1.val) (4 * k0_t1.val)
      ∗ GF d i (tbl arg3) arg5 T L (slotOf arg7 arg11 arg15 (qt 1) (ql 1)) (4 * k0_t1.val + 1) ∗ C2 ∗ C3)
    ⊢ wpT defs d i (k0_part71 i arg2 harg2 arg3 harg3 arg4 harg4 arg5 harg5 arg6 harg6 arg7 harg7 arg8 harg8 arg9 harg9 arg10 arg11 arg12 arg13 arg14 arg15 arg16 arg17 v29_r0 v2 k0_t1 v29 v30 v >>= K) Q := by
  have hP := fun j hj => pad_iff_at (L := L) (n := 4 * k0_t1.val) (by omega) j hj
  have hP' := fun j hj => pad_iff_at (L := L) (n := 4 * k0_t1.val + 1) (by omega) j hj
  refine call_step ?_
  refine list_step (Gen.k0_off12_eq _) (by omega) (by decide) hP fun raw7 h7 => ?_
  refine clear_ite (any_iff (cnt_step hv (msk_load h7) (by decide))) ?_ ?_
  · refine front_store (B := slotOf arg6 arg10 arg14 (qt 0) (ql 0)) (n := 4 * k0_t1.val) ?_ (by omega) ?_
    · rw [Gen.k0_off21_eq]; unfold pieceOff; congr 1; omega
    refine refill (B := slotOf arg6 arg10 arg14 (qt 0) (ql 0)) (n := 4 * k0_t1.val) (n' := 4 * (k0_t1.val + 1) + 0) (k' := min (4 * k0_t1.val + 1) 196)
      (Z' := BF d i (tbl arg3) arg5 arg4 T L (slotOf arg6 arg10 arg14 (qt 0) (ql 0)) 0 (k0_t1.val + 1)) hcr hin ?_ ?_ ?_
    · intro hc
      have := (cond131_iff k0_t1).mp hc
      exact ⟨rfl, if_pos this, rfl, by omega, by omega, Gen.k0_off23_eq _⟩
    · intro hc
      have := mt (cond131_iff k0_t1).mpr hc
      exact ⟨(if_neg this).trans rfl, by omega⟩
    refine turn.trans (front_wait ?_)
    refine list_step (Gen.k0_off25_eq _) (by omega) (by decide) hP' fun raw0 h0 => ?_
    refine ret_step ?_
    exact h _ _ (msk_load h0)
  · intro he
    have hci : 4 * k0_t1.val < 200 := by omega
    try with_reducible refine ret_step ?_
    first
      | with_reducible refine list_step (F := F) (Gen.k0_off13_eq k0_t1) hci (Nat.le_of_ble_eq_true rfl) hP fun raw hraw => ?_
      | (with_reducible refine call_step ?_); refine list_step (F := F) (Gen.k0_off13_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off14_eq k0_t1) hci (Nat.le_of_ble_eq_true rfl) hP fun raw hraw => ?_
      | (with_reducible refine call_step ?_); refine list_step (F := F) (Gen.k0_off14_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off15_eq k0_t1) hci (Nat.le_of_ble_eq_true rfl) hP fun raw hraw => ?_
      | (with_reducible refine call_step ?_); refine list_step (F := F) (Gen.k0_off15_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off16_eq k0_t1) hci (Nat.le_of_ble_eq_true rfl) hP fun raw hraw => ?_
      | (with_reducible refine call_step ?_); refine list_step (F := F) (Gen.k0_off16_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off17_eq k0_t1) hci (Nat.le_of_ble_eq_true rfl) hP fun raw hraw => ?_
      | (with_reducible refine call_step ?_); refine list_step (F := F) (Gen.k0_off17_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off18_eq k0_t1) hci (Nat.le_of_ble_eq_true rfl) hP fun raw hraw => ?_
      | (with_reducible refine call_step ?_); refine list_step (F := F) (Gen.k0_off18_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off19_eq k0_t1) hci (Nat.le_of_ble_eq_true rfl) hP fun raw hraw => ?_
      | (with_reducible refine call_step ?_); refine list_step (F := F) (Gen.k0_off19_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off20_eq k0_t1) hci (Nat.le_of_ble_eq_true rfl) hP fun raw hraw => ?_
      | (with_reducible refine call_step ?_); refine list_step (F := F) (Gen.k0_off20_eq k0_t1) hci (by decide) hP fun raw hraw => ?_
    iterate 16
      try with_reducible refine ret_step ?_
      try with_reducible refine call_step ?_
      refine row_step (pad_iff hraw (by decide)) ?_
    exact he

end Parts

end Cert.KernelIdeal.Tile
-- ==== Proof.KernelIdeal.PartsC.lean ====
module

public import proofs.«01_k».proof.Proof.KernelIdeal.PartsA
public import proofs.«01_k».proof.Proof.Gen.KernelIdeal

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

attribute [local irreducible] wpT

section Parts

variable {d : Dev nD} {i : grid0.Coords} {arg2 : Memref sig .scVector .hbm S6400x128 .i32} {harg2 : arg2.IsWhole}
  {arg3 : Memref sig .scVector .hbm S100000x128 .f32} {harg3 : arg3.IsWhole} {arg4 : Memref sig .scVector .hbm S819200x128 .f32}
  {harg4 : arg4.IsWhole} {arg5 : Memref sig .scVector .vmem S200x128 .i32} {harg5 : arg5.IsWhole}
  {arg6 : Memref sig .scVector .vmem S128x128 .f32} {harg6 : arg6.IsWhole} {arg7 : Memref sig .scVector .vmem S128x128 .f32} {harg7 : arg7.IsWhole}
  {arg8 : Memref sig .scVector .vmem S128x128 .f32} {harg8 : arg8.IsWhole} {arg9 : Memref sig .scVector .vmem S128x128 .f32} {harg9 : arg9.IsWhole}
  {arg10 arg11 arg12 arg13 arg14 arg15 arg16 arg17 v29_r0 : DmaSems sig S_} {k0_t1 : Fin k0_t1_loop.trips}
  {T : S100000x128.Idx → Elt F .f32} {L : S200x128.Idx → BitVec 32} {O : CellTallies nD τ sig (HIx 1)} {W : Waits sig (HIx 1)}
  {qt ql : Fin 4 → PosShare TreeShare} {defs : Defs nD τ sig (Elt F) Λ₀} {α : Type}

theorem cond261_iff : ∀ t : Fin k0_t1_loop.trips, k0_cond261 t = 1#1 ↔ t.val + 1 < 50 := by decide +kernel

/-- The second buffer refilled, the third one's gather waited for, its first groups counted. -/
theorem part74_step {Q : α → sProp 𝕄} {v2 v218 v219 c : BitVec 32} {K : _ → TProg F i α} {C3 C0 : sProp 𝕄}
    (ht : k0_t1.val < 50) (hin : ∀ x, (L x).toNat < 100000)
    (hcr : ∀ h : S100000x128.Gathers 0 S128x128, ∑ j, (arg7.slice (S128x128.rowRect h.axis' j) (S128x128.stride_rowRect h.axis' j)).view.dmaCredit = arg7.view.dmaCredit)
    (h : ∀ v, Cnt v 3 (padAt L (4 * k0_t1.val + 2)) → iprop(hold d i arg8 fullShare (rowsOf T L (4 * k0_t1.val + 2)) ∗ hold d i arg5 (ql 2) L ∗ Aside d i (tbl arg3) T O W (slotOf arg8 arg12 arg16 (qt 2) (ql 2)) ∗ UD d i arg4 T L (4 * k0_t1.val + 2) (min (4 * k0_t1.val + 2) 196) ∗ C3 ∗ C0 ∗ BF d i (tbl arg3) arg5 arg4 T L (slotOf arg7 arg11 arg15 (qt 1) (ql 1)) 1 (k0_t1.val + 1)) ⊢ wpT defs d i (K v) Q) :
    iprop(SF d i (tbl arg3) arg5 arg4 T L (slotOf arg7 arg11 arg15 (qt 1) (ql 1)) (4 * k0_t1.val + 1) ∗ Ow d i O W ∗ UD d i arg4 T L (4 * k0_t1.val + 2) (min (4 * k0_t1.val + 1) 196) ∗ GF d i (tbl arg3) arg5 T L (slotOf arg8 arg12 arg16 (qt 2) (ql 2)) (4 * k0_t1.val + 2) ∗ C3 ∗ C0)
    ⊢ wpT defs d i (k0_part74 i arg2 harg2 arg3 harg3 arg4 harg4 arg5 harg5 arg6 harg6 arg7 harg7 arg8 harg8 arg9 harg9 arg10 arg11 arg12 arg13 arg14 arg15 arg16 arg17 v29_r0 v2 k0_t1 v218 v219 c >>= K) Q := by
  have hP := fun j hj => pad_iff_at (L := L) (n := 4 * k0_t1.val + 2) (by omega) j hj
  refine call_step ?_
  refine refill (B := slotOf arg7 arg11 arg15 (qt 1) (ql 1)) (n := 4 * k0_t1.val + 1) (n' := 4 * (k0_t1.val + 1) + 1) (k' := min (4 * k0_t1.val + 2) 196)
    (Z' := BF d i (tbl arg3) arg5 arg4 T L (slotOf arg7 arg11 arg15 (qt 1) (ql 1)) 1 (k0_t1.val + 1)) hcr hin ?_ ?_ ?_
  · intro hc
    have := (cond261_iff k0_t1).mp hc
    refine ⟨rfl, if_pos this, by omega, by omega, by omega, (Gen.k0_off43_eq _).trans ?_⟩
    congr 1
  · intro hc
    have := mt (cond261_iff k0_t1).mpr hc
    exact ⟨(if_neg this).trans rfl, by omega⟩
  refine turn.trans (front_wait ?_)
  refine list_step (Gen.k0_off45_eq _) (by omega) (by decide) hP fun raw0 h0 => ?_
  refine list_step (Gen.k0_off46_eq _) (by omega) (by decide) hP fun raw1 h1 => ?_
  refine list_step (Gen.k0_off47_eq _) (by omega) (by decide) hP fun raw2 h2 => ?_
  refine ret_step ?_
  exact h _ (cnt_step (cnt_step (cnt_step cnt_zero (msk_load h0) (by decide)) (msk_load h1) (by decide)) (msk_load h2) (by decide))

/-- Four more groups of the third buffer's indices counted, the last one's mask taken. -/
theorem part75_step {Q : α → sProp 𝕄} {v218 : BitVec 32} {v : IVec S16 32} {K : _ → TProg F i α} {A X : sProp 𝕄} {q : PosShare TreeShare}
    (ht : k0_t1.val < 50) (hv : Cnt v 3 (padAt L (4 * k0_t1.val + 2)))
    (h : ∀ v m, Cnt v 7 (padAt L (4 * k0_t1.val + 2)) → Msk m 112 (padAt L (4 * k0_t1.val + 2)) → iprop(A ∗ hold d i arg5 q L ∗ X) ⊢ wpT defs d i (K ⟨v, m, 0#32, broadcast S16 1#32⟩) Q) :
    iprop(A ∗ hold d i arg5 q L ∗ X)
    ⊢ wpT defs d i (k0_part75 i arg2 harg2 arg3 harg3 arg4 harg4 arg5 harg5 arg6 harg6 arg7 harg7 arg8 harg8 arg9 harg9 arg10 arg11 arg12 arg13 arg14 arg15 arg16 arg17 v29_r0 k0_t1 v218 v >>= K) Q := by
  have hP := fun j hj => pad_iff_at (L := L) (n := 4 * k0_t1.val + 2) (by omega) j hj
  refine call_step ?_
  refine list_step (Gen.k0_off48_eq _) (by omega) (by decide) hP fun raw3 h3 => ?_
  refine list_step (Gen.k0_off49_eq _) (by omega) (by decide) hP fun raw4 h4 => ?_
  refine list_step (Gen.k0_off50_eq _) (by omega) (by decide) hP fun raw5 h5 => ?_
  refine list_step (Gen.k0_off51_eq _) (by omega) (by decide) hP fun raw6 h6 => ?_
  refine list_step (Gen.k0_off52_eq _) (by omega) (by decide) hP fun raw7 h7 => ?_
  refine ret_step ?_
  refine h _ _ (cnt_step (cnt_step (cnt_step (cnt_step hv (msk_load h3) ?_) (msk_load h4) ?_) (msk_load h5) ?_) (msk_load h6) ?_) (msk_load h7) <;> decide

theorem cond391_iff : ∀ t : Fin k0_t1_loop.trips, k0_cond391 t = 1#1 ↔ t.val + 1 < 50 := by decide +kernel

set_option maxHeartbeats 2000000 in
/-- The third buffer's count ended, its padding rows cleared, its store issued; it is refilled, the fourth one's gather waited for, its first group counted. -/
theorem part76_step {Q : α → sProp 𝕄} {v2 v29 v218 : BitVec 32} {v : IVec S16 32} {m : IVec S16 1} {K : _ → TProg F i α} {C0 C1 : sProp 𝕄}
    (ht : k0_t1.val < 50) (hin : ∀ x, (L x).toNat < 100000)
    (hcr : ∀ h : S100000x128.Gathers 0 S128x128, ∑ j, (arg8.slice (S128x128.rowRect h.axis' j) (S128x128.stride_rowRect h.axis' j)).view.dmaCredit = arg8.view.dmaCredit)
    (hv : Cnt v 7 (padAt L (4 * k0_t1.val + 2))) (hm : Msk m 112 (padAt L (4 * k0_t1.val + 2)))
    (h : ∀ v312 v, Cnt v 1 (padAt L (4 * k0_t1.val + 3)) → iprop(hold d i arg9 fullShare (rowsOf T L (4 * k0_t1.val + 3)) ∗ hold d i arg5 (ql 3) L ∗ Aside d i (tbl arg3) T O W (slotOf arg9 arg13 arg17 (qt 3) (ql 3)) ∗ UD d i arg4 T L (4 * k0_t1.val + 3) (min (4 * k0_t1.val + 3) 196) ∗ C0 ∗ C1 ∗ BF d i (tbl arg3) arg5 arg4 T L (slotOf arg8 arg12 arg16 (qt 2) (ql 2)) 2 (k0_t1.val + 1)) ⊢ wpT defs d i (K ⟨v312, v⟩) Q) :
    iprop(hold d i arg8 fullShare (rowsOf T L (4 * k0_t1.val + 2)) ∗ hold d i arg5 (ql 2) L ∗ Aside d i (tbl arg3) T O W (slotOf arg8 arg12 arg16 (qt 2) (ql 2)) ∗ UD d i arg4 T L (4 * k0_t1.val + 2) (min (4 * k0_t1.val + 2) 196) ∗ GF d i (tbl arg3) arg5 T L (slotOf arg9 arg13 arg17 (qt 3) (ql 3)) (4 * k0_t1.val + 3) ∗ C0 ∗ C1)
    ⊢ wpT defs d i (k0_part76 i arg2 harg2 arg3 harg3 arg4 harg4 arg5 harg5 arg6 harg6 arg7 harg7 arg8 harg8 arg9 harg9 arg10 arg11 arg12 arg13 arg14 arg15 arg16 arg17 v29_r0 v2 k0_t1 v29 v218 v m 0#32 (broadcast S16 1#32) >>= K) Q := by
  have hP := fun j hj => pad_iff_at (L := L) (n := 4 * k0_t1.val + 2) (by omega) j hj
  have hP' := fun j hj => pad_iff_at (L := L) (n := 4 * k0_t1.val + 3) (by omega) j hj
  refine call_step ?_
  refine clear_ite (any_iff (cnt_step hv hm (by decide))) ?_ ?_
  · refine front_store (B := slotOf arg8 arg12 arg16 (qt 2) (ql 2)) (n := 4 * k0_t1.val + 2) ?_ (by omega) ?_
    · rw [Gen.k0_off61_eq]; unfold pieceOff; congr 1; omega
    refine refill (B := slotOf arg8 arg12 arg16 (qt 2) (ql 2)) (n := 4 * k0_t1.val + 2) (n' := 4 * (k0_t1.val + 1) + 2) (k' := min (4 * k0_t1.val + 3) 196)
      (Z' := BF d i (tbl arg3) arg5 arg4 T L (slotOf arg8 arg12 arg16 (qt 2) (ql 2)) 2 (k0_t1.val + 1)) hcr hin ?_ ?_ ?_
    · intro hc
      have := (cond391_iff k0_t1).mp hc
      refine ⟨rfl, if_pos this, by omega, by omega, by omega, (Gen.k0_off63_eq _).trans ?_⟩
      congr 1
    · intro hc
      have := mt (cond391_iff k0_t1).mpr hc
      exact ⟨(if_neg this).trans rfl, by omega⟩
    refine turn.trans (front_wait ?_)
    refine list_step (Gen.k0_off65_eq _) (by omega) (by decide) hP' fun raw0 h0 => ?_
    refine ret_step ?_
    exact h _ _ (cnt_step cnt_zero (msk_load h0) (by decide))
  · intro he
    have hci : 4 * k0_t1.val + 2 < 200 := by omega
    try with_reducible refine ret_step ?_
    first
      | with_reducible refine list_step (F := F) (Gen.k0_off53_eq k0_t1) hci (Nat.le_of_ble_eq_true rfl) hP fun raw hraw => ?_
      | (with_reducible refine call_step ?_); refine list_step (F := F) (Gen.k0_off53_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off54_eq k0_t1) hci (Nat.le_of_ble_eq_true rfl) hP fun raw hraw => ?_
      | (with_reducible refine call_step ?_); refine list_step (F := F) (Gen.k0_off54_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off55_eq k0_t1) hci (Nat.le_of_ble_eq_true rfl) hP fun raw hraw => ?_
      | (with_reducible refine call_step ?_); refine list_step (F := F) (Gen.k0_off55_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off56_eq k0_t1) hci (Nat.le_of_ble_eq_true rfl) hP fun raw hraw => ?_
      | (with_reducible refine call_step ?_); refine list_step (F := F) (Gen.k0_off56_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off57_eq k0_t1) hci (Nat.le_of_ble_eq_true rfl) hP fun raw hraw => ?_
      | (with_reducible refine call_step ?_); refine list_step (F := F) (Gen.k0_off57_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off58_eq k0_t1) hci (Nat.le_of_ble_eq_true rfl) hP fun raw hraw => ?_
      | (with_reducible refine call_step ?_); refine list_step (F := F) (Gen.k0_off58_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off59_eq k0_t1) hci (Nat.le_of_ble_eq_true rfl) hP fun raw hraw => ?_
      | (with_reducible refine call_step ?_); refine list_step (F := F) (Gen.k0_off59_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off60_eq k0_t1) hci (Nat.le_of_ble_eq_true rfl) hP fun raw hraw => ?_
      | (with_reducible refine call_step ?_); refine list_step (F := F) (Gen.k0_off60_eq k0_t1) hci (by decide) hP fun raw hraw => ?_
    iterate 16
      try with_reducible refine ret_step ?_
      try with_reducible refine call_step ?_
      refine row_step (pad_iff hraw (by decide)) ?_
    exact he

end Parts

end Cert.KernelIdeal.Tile
-- ==== Proof.KernelIdeal.PartsB.lean ====
module

public import proofs.«01_k».proof.Proof.KernelIdeal.PartsA
public import proofs.«01_k».proof.Proof.Gen.KernelIdeal

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

attribute [local irreducible] wpT

section Parts

variable {d : Dev nD} {i : grid0.Coords} {arg2 : Memref sig .scVector .hbm S6400x128 .i32} {harg2 : arg2.IsWhole}
  {arg3 : Memref sig .scVector .hbm S100000x128 .f32} {harg3 : arg3.IsWhole} {arg4 : Memref sig .scVector .hbm S819200x128 .f32}
  {harg4 : arg4.IsWhole} {arg5 : Memref sig .scVector .vmem S200x128 .i32} {harg5 : arg5.IsWhole}
  {arg6 : Memref sig .scVector .vmem S128x128 .f32} {harg6 : arg6.IsWhole} {arg7 : Memref sig .scVector .vmem S128x128 .f32} {harg7 : arg7.IsWhole}
  {arg8 : Memref sig .scVector .vmem S128x128 .f32} {harg8 : arg8.IsWhole} {arg9 : Memref sig .scVector .vmem S128x128 .f32} {harg9 : arg9.IsWhole}
  {arg10 arg11 arg12 arg13 arg14 arg15 arg16 arg17 v29_r0 : DmaSems sig S_} {k0_t1 : Fin k0_t1_loop.trips}
  {T : S100000x128.Idx → Elt F .f32} {L : S200x128.Idx → BitVec 32} {O : CellTallies nD τ sig (HIx 1)} {W : Waits sig (HIx 1)}
  {qt ql : Fin 4 → PosShare TreeShare} {defs : Defs nD τ sig (Elt F) Λ₀} {α : Type}

/-- Four more groups of the second buffer's indices counted. -/
theorem part72_step {Q : α → sProp 𝕄} {v124 : BitVec 32} {v : IVec S16 32} {m : IVec S16 1} {K : _ → TProg F i α} {A X : sProp 𝕄} {q : PosShare TreeShare}
    (ht : k0_t1.val < 50) (hv : Cnt v 0 (padAt L (4 * k0_t1.val + 1))) (hm : Msk m 0 (padAt L (4 * k0_t1.val + 1)))
    (h : ∀ v, Cnt v 5 (padAt L (4 * k0_t1.val + 1)) → iprop(A ∗ hold d i arg5 q L ∗ X) ⊢ wpT defs d i (K v) Q) :
    iprop(A ∗ hold d i arg5 q L ∗ X)
    ⊢ wpT defs d i (k0_part72 i arg2 harg2 arg3 harg3 arg4 harg4 arg5 harg5 arg6 harg6 arg7 harg7 arg8 harg8 arg9 harg9 arg10 arg11 arg12 arg13 arg14 arg15 arg16 arg17 v29_r0 k0_t1 v124 v m >>= K) Q := by
  have hP := fun j hj => pad_iff_at (L := L) (n := 4 * k0_t1.val + 1) (by omega) j hj
  refine call_step ?_
  refine list_step (Gen.k0_off26_eq _) (by omega) (by decide) hP fun raw1 h1 => ?_
  refine list_step (Gen.k0_off27_eq _) (by omega) (by decide) hP fun raw2 h2 => ?_
  refine list_step (Gen.k0_off28_eq _) (by omega) (by decide) hP fun raw3 h3 => ?_
  refine list_step (Gen.k0_off29_eq _) (by omega) (by decide) hP fun raw4 h4 => ?_
  refine ret_step ?_
  refine h _ (cnt_step (cnt_step (cnt_step (cnt_step (cnt_step hv hm ?_) (msk_load h1) ?_) (msk_load h2) ?_) (msk_load h3) ?_) (msk_load h4) ?_) <;> decide

set_option maxHeartbeats 2000000 in
/-- The second buffer's count ended, its padding rows cleared, its store issued. -/
theorem part73_step {Q : α → sProp 𝕄} {v2 v29 v124 : BitVec 32} {v : IVec S16 32} {K : _ → TProg F i α} {X : sProp 𝕄} {k : ℕ}
    (ht : k0_t1.val < 50) (hv : Cnt v 5 (padAt L (4 * k0_t1.val + 1)))
    (h : ∀ v218 v219 c, iprop(SF d i (tbl arg3) arg5 arg4 T L (slotOf arg7 arg11 arg15 (qt 1) (ql 1)) (4 * k0_t1.val + 1) ∗ Ow d i O W ∗ UD d i arg4 T L (4 * k0_t1.val + 2) k ∗ X) ⊢ wpT defs d i (K ⟨v218, v219, c⟩) Q) :
    iprop(hold d i arg7 fullShare (rowsOf T L (4 * k0_t1.val + 1)) ∗ hold d i arg5 (ql 1) L ∗ Aside d i (tbl arg3) T O W (slotOf arg7 arg11 arg15 (qt 1) (ql 1)) ∗ UD d i arg4 T L (4 * k0_t1.val + 1) k ∗ X)
    ⊢ wpT defs d i (k0_part73 i arg2 harg2 arg3 harg3 arg4 harg4 arg5 harg5 arg6 harg6 arg7 harg7 arg8 harg8 arg9 harg9 arg10 arg11 arg12 arg13 arg14 arg15 arg16 arg17 v29_r0 v2 k0_t1 v29 v124 v >>= K) Q := by
  have hP := fun j hj => pad_iff_at (L := L) (n := 4 * k0_t1.val + 1) (by omega) j hj
  refine call_step ?_
  refine list_step (Gen.k0_off30_eq _) (by omega) (by decide) hP fun raw5 h5 => ?_
  refine list_step (Gen.k0_off31_eq _) (by omega) (by decide) hP fun raw6 h6 => ?_
  refine list_step (Gen.k0_off32_eq _) (by omega) (by decide) hP fun raw7 h7 => ?_
  refine clear_ite (any_iff (cnt_step (cnt_step (cnt_step hv (msk_load h5) (by decide)) (msk_load h6) (by decide)) (msk_load h7) (by decide))) ?_ ?_
  · refine front_store (B := slotOf arg7 arg11 arg15 (qt 1) (ql 1)) (n := 4 * k0_t1.val + 1) ?_ (by omega) ?_
    · rw [Gen.k0_off41_eq]; unfold pieceOff; congr 1; omega
    refine ret_step ?_
    exact h _ _ _
  · intro he
    have hci : 4 * k0_t1.val + 1 < 200 := by omega
    try with_reducible refine ret_step ?_
    first
      | with_reducible refine list_step (F := F) (Gen.k0_off33_eq k0_t1) hci (Nat.le_of_ble_eq_true rfl) hP fun raw hraw => ?_
      | (with_reducible refine call_step ?_); refine list_step (F := F) (Gen.k0_off33_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off34_eq k0_t1) hci (Nat.le_of_ble_eq_true rfl) hP fun raw hraw => ?_
      | (with_reducible refine call_step ?_); refine list_step (F := F) (Gen.k0_off34_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off35_eq k0_t1) hci (Nat.le_of_ble_eq_true rfl) hP fun raw hraw => ?_
      | (with_reducible refine call_step ?_); refine list_step (F := F) (Gen.k0_off35_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off36_eq k0_t1) hci (Nat.le_of_ble_eq_true rfl) hP fun raw hraw => ?_
      | (with_reducible refine call_step ?_); refine list_step (F := F) (Gen.k0_off36_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off37_eq k0_t1) hci (Nat.le_of_ble_eq_true rfl) hP fun raw hraw => ?_
      | (with_reducible refine call_step ?_); refine list_step (F := F) (Gen.k0_off37_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off38_eq k0_t1) hci (Nat.le_of_ble_eq_true rfl) hP fun raw hraw => ?_
      | (with_reducible refine call_step ?_); refine list_step (F := F) (Gen.k0_off38_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off39_eq k0_t1) hci (Nat.le_of_ble_eq_true rfl) hP fun raw hraw => ?_
      | (with_reducible refine call_step ?_); refine list_step (F := F) (Gen.k0_off39_eq k0_t1) hci (by decide) hP fun raw hraw => ?_
    iterate 16
      try with_reducible refine ret_step ?_
      try with_reducible refine call_step ?_
      refine row_step (pad_iff hraw (by decide)) ?_
    try with_reducible refine ret_step ?_
    first
      | with_reducible refine list_step (F := F) (Gen.k0_off40_eq k0_t1) hci (Nat.le_of_ble_eq_true rfl) hP fun raw hraw => ?_
      | (with_reducible refine call_step ?_); refine list_step (F := F) (Gen.k0_off40_eq k0_t1) hci (by decide) hP fun raw hraw => ?_
    iterate 16
      try with_reducible refine ret_step ?_
      try with_reducible refine call_step ?_
      refine row_step (pad_iff hraw (by decide)) ?_
    exact he

end Parts

end Cert.KernelIdeal.Tile
-- ==== Proof.KernelIdeal.Loop.lean ====
/-
  The steps around the chunks: the fetch of a tile's list, shares cut in four and put together again, the counted loop,
  and the turns the four buffers take before and after it.
-/
module

public import proofs.«01_k».proof.Proof.KernelIdeal.Trip

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

section Around

variable {d : Dev nD} {i : grid0.Coords} {tb : Memref sig .scVector .hbm S100000x128 .f32} {l : Memref sig .scVector .vmem S200x128 .i32}
  {o : Memref sig .scVector .hbm S819200x128 .f32} {T : S100000x128.Idx → Elt F .f32} {L : S200x128.Idx → BitVec 32}
  {O : CellTallies nD τ sig (HIx 1)} {W : Waits sig (HIx 1)} {defs : Defs nD τ sig (Elt F) Λ₀} {α : Type} {B : Slot}

/-- A program that returns ends where it stands. -/
theorem ret_end {Q : α → sProp 𝕄} {x : α} {X : sProp 𝕄} (h : X ⊢ Q x) : X ⊢ wpT defs d i (pure x : TProg F i α) Q :=
  BI.Entails.trans h (fupd_intro (Fr := frame))

/-- THE LOOP: what every trip keeps holds after the last, and `R` is left alone. -/
theorem loop_step {Q : α → sProp 𝕄} {w : ℕ} {lp : Scf.Loop w} {ok : lp.OK} {body : Fin lp.trips → PUnit → TProg F i PUnit} {K : PUnit → TProg F i α}
    {R : sProp 𝕄} (I : ℕ → sProp 𝕄) (hb : ∀ k : Fin lp.trips, I k.val ⊢ wpT defs d i (body k ⟨⟩) fun _ => I (k.val + 1))
    (h : iprop(I lp.trips ∗ R) ⊢ wpT defs d i (K ⟨⟩) Q) :
    iprop(I 0 ∗ R) ⊢ wpT defs d i (Scf.Loop.for lp ok ⟨⟩ body >>= K) Q := by
  unfold wpT at *
  iintro ⟨HI, HR⟩
  iapply (Scf.wp_for_bind frame (wpE defs Variants.none (thr d i) none) Set.univ lp.lb lp.ub lp.st ok (⟨⟩ : PUnit) body (fun k _ => I k)
    (fun k _ => hb k)) $$ HI
  iintro %u HI
  iapply h
  isplitl [HI] <;> iassumption

/-- The list fetched: issued and waited for at once. -/
theorem fetch_step {Q : α → sProp 𝕄} {src : Memref sig .scVector .hbm S200x128 .i32} {q : PosShare TreeShare} {g : DmaSem sig} {hw hw' ht hw2 hw2'}
    {K : PUnit → TProg F i α} {X : sProp 𝕄}
    (h : iprop(hold d i src q L ∗ hold d i l fullShare L ∗ semVal (thr d i, SemLoc.dma g) 0 ∗ Ow d i O W ∗ X) ⊢ wpT defs d i (K ⟨⟩) Q) :
    iprop(hold d i src q L ∗ (∃ G, hold d i l fullShare G) ∗ semVal (thr d i, SemLoc.dma g) 0 ∗ Ow d i O W ∗ X)
      ⊢ wpT defs d i (Prog.lift (.enqueueDma src (.here l) (.dma g) hw hw' ht) >>= fun _ =>
          Prog.lift (.waitDma2 g src l hw2 hw2') >>= K) Q := by
  unfold wpT at *
  unfold hold
  iintro ⟨⟨%f, %hf, Hs⟩, ⟨%G, %fl, -, Hl⟩, Hg, HO, HX⟩
  iapply (Transfers.wp_dmaLocal countersEmb Variants.none (thr d i) none (default : HIx 1) l.view.dmaCredit rfl
    (View.dmaCredit_pos _ (by decide)) (Finset.Subset.refl _)) $$ [Hs Hl Hg]
  · isplitl [Hs]; · iexact Hs
    isplitl [Hl]; · iexact Hl
    iexact Hg
  iintro HF
  unfold Ow
  icases HO with ⟨%W', %hW, HO, #Hmw⟩
  iapply (Transfers.wp_waitLocalO countersEmb Variants.none (thr d i) none (default : HIx 1) rfl) $$ [HF HO]
  · isplitl [HF]; · iexact HF
    isplitl [HO]; · iexact HO
    iapply (Transfers.MayWaits.elim (.dma g)) $$ Hmw
  iintro ⟨⟨Hl, Hs⟩, Hg, HO⟩
  iapply h
  isplitl [Hs]
  · iapply (hold_of hf) $$ Hs
  isplitl [Hl]
  · iapply (hold_of (b := l) (q := fullShare) (by rw [View.read_write_univ]; exact hf)) $$ Hl
  isplitl [Hg]; · iexact Hg
  isplitr [HX]
  swap; · iexact HX
  unfold Ow
  iexists _
  isplitr
  swap; · isplitl [HO]; · iexact HO
          iexact Hmw
  ipureintro
  intro p hp
  rcases Finset.mem_insert.mp hp with rfl | hp
  · exact Or.inr rfl
  · exact hW p hp

/-! ## Quarters of a share -/

/-- Quarter `b` of a share. -/
def quarter (q : PosShare TreeShare) : Fin 4 → PosShare TreeShare := ![q.left.left, q.left.right, q.right.left, q.right.right]

section Quarters

variable {sp : Space} {s : Shape} {e : EltTy} {b : Memref sig .scVector sp s e} {q : PosShare TreeShare} {G : s.Idx → Elt F e}

theorem hold_halve : (hold d i b q G : sProp 𝕄) ⊢ iprop(hold d i b q.left G ∗ hold d i b q.right G) := by
  unfold hold
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

theorem hold_join : iprop(hold d i b q.left G ∗ hold d i b q.right G) ⊢ (hold d i b q G : sProp 𝕄) := by
  have key : ∀ f : Buf (Elt F) (b.view.loc (thr d i)), b.view.read (Elt F) f = G →
      iprop((b.view.loc (thr d i) ↦[b.view.set]{q.left} f) ∗ hold d i b q.right G) ⊢ (hold d i b q G : sProp 𝕄) := by
    intro f hf
    iintro ⟨H1, H2⟩
    ihave H2' := (hold_to hf) $$ H2
    iapply (hold_of hf)
    iapply (pointsTo_share (PosShare.mem_left_op_right q)).2
    isplitl [H1] <;> iassumption
  iintro ⟨H1, H2⟩
  ihave H1' := (Entails.of_eq (show (hold d i b q.left G : sProp 𝕄) = iprop(∃ f : Buf (Elt F) (b.view.loc (thr d i)), ⌜b.view.read (Elt F) f = G⌝
    ∗ (b.view.loc (thr d i) ↦[b.view.set]{q.left} f)) from rfl)) $$ H1
  icases H1' with ⟨%f, %hf, H1⟩
  iapply (key f hf)
  isplitl [H1] <;> iassumption

theorem hold_quarters : (hold d i b q G : sProp 𝕄)
    ⊢ iprop(hold d i b (quarter q 0) G ∗ hold d i b (quarter q 1) G ∗ hold d i b (quarter q 2) G ∗ hold d i b (quarter q 3) G) := by
  iintro H
  ihave H' := (hold_halve (q := q)) $$ H
  icases H' with ⟨H1, H2⟩
  ihave H1' := (hold_halve (q := q.left)) $$ H1
  ihave H2' := (hold_halve (q := q.right)) $$ H2
  icases H1' with ⟨H3, H4⟩
  icases H2' with ⟨H5, H6⟩
  isplitl [H3]; · iexact H3
  isplitl [H4]; · iexact H4
  isplitl [H5]; · iexact H5
  iexact H6

theorem quarters_hold : iprop(hold d i b (quarter q 0) G ∗ hold d i b (quarter q 1) G ∗ hold d i b (quarter q 2) G ∗ hold d i b (quarter q 3) G)
    ⊢ (hold d i b q G : sProp 𝕄) := by
  iintro ⟨H3, H4, H5, H6⟩
  iapply (hold_join (q := q))
  isplitl [H3 H4]
  · iapply (hold_join (q := q.left))
    isplitl [H3]; · iexact H3
    iexact H4
  · iapply (hold_join (q := q.right))
    isplitl [H5]; · iexact H5
    iexact H6

end Quarters

/-! ## The buffers before the first gather and after the last store -/

variable (d i tb l T L) in
/-- A buffer with nothing under way. -/
def Idle (B : Slot) : sProp 𝕄 :=
  iprop((∃ G, hold d i B.b fullShare G) ∗ Tok d i tb l T L B ∗ semVal (thr d i, SemLoc.dma B.gs) 0 ∗ semVal (thr d i, SemLoc.dma B.ss) 0)

theorem rot {A B' C D E : sProp 𝕄} : iprop(A ∗ B' ∗ C ∗ D ∗ E) ⊢ iprop(B' ∗ C ∗ D ∗ A ∗ E) := by
  iintro ⟨H1, H2, H3, H4, H5⟩
  iframe

theorem idle_open {X : sProp 𝕄} : iprop(Idle d i tb l T L B ∗ X) ⊢ iprop((∃ G, hold d i B.b fullShare G) ∗ Tok d i tb l T L B
    ∗ semVal (thr d i, SemLoc.dma B.gs) 0 ∗ semVal (thr d i, SemLoc.dma B.ss) 0 ∗ X) := by
  unfold Idle
  iintro ⟨⟨H1, H2, H3, H4⟩, H5⟩
  iframe

/-- The first buffer's gather issued; the next buffer comes to the front. -/
theorem first_gather {Q : α → sProp 𝕄} {off : Fin 2 → ℕ} {inb : ∀ a, off a + S1x128.size a ≤ S200x128.size a} {hst} {n : ℕ} {hw hr}
    {K : PUnit → TProg F i α} {B' C D X : sProp 𝕄} (ho : off = ![n, 0]) (hn : n < 200)
    (hcr : ∀ h : S100000x128.Gathers 0 S128x128, ∑ j, (B.b.slice (S128x128.rowRect h.axis' j) (S128x128.stride_rowRect h.axis' j)).view.dmaCredit = B.b.view.dmaCredit)
    (hin : ∀ x, (L x).toNat < 100000)
    (h : iprop(B' ∗ C ∗ D ∗ GF d i tb l T L B n ∗ X) ⊢ wpT defs d i (K ⟨⟩) Q) :
    iprop(Idle d i tb l T L B ∗ B' ∗ C ∗ D ∗ X)
      ⊢ wpT defs d i (SparseCore.enqueueIndirectGather rfl tb B.b gathers_S100000x128_S128x128
          ((l.slice (Rect.unit (s := S200x128) off S1x128.size inb) hst).squeeze S128 squeezes_S1x128_S128) rfl B.gs hw rfl (Or.inl rfl) hr >>= K) Q :=
  idle_open.trans (gather_step ho hn hcr hin (rot.trans h))

theorem last_front {X A C D U : sProp 𝕄} : iprop((∃ G, hold d i B.b fullShare G) ∗ Tok d i tb l T L B
    ∗ semVal (thr d i, SemLoc.dma B.gs) 0 ∗ semVal (thr d i, SemLoc.dma B.ss) 0 ∗ (Ow d i O W ∗ U ∗ (A ∗ C ∗ D ∗ X)))
    ⊢ iprop(A ∗ C ∗ D ∗ Idle d i tb l T L B ∗ (Ow d i O W ∗ U ∗ X)) := by
  unfold Idle
  iintro ⟨H1, H2, H3, H4, H5, H6, H7, H8, H9, H10⟩
  iframe

theorem last_in {X A C D S U : sProp 𝕄} : iprop(S ∗ A ∗ C ∗ D ∗ (Ow (F := F) d i O W ∗ U ∗ X)) ⊢ iprop(S ∗ Ow d i O W ∗ U ∗ (A ∗ C ∗ D ∗ X)) := by
  iintro ⟨H1, H2, H3, H4, H5, H6, H7⟩
  iframe

/-- The first buffer's last store waited for; the next buffer comes to the front. -/
theorem last_wait {Q : α → sProp 𝕄} {n m : ℕ} {off : Fin 2 → ℕ} {inb : ∀ a, off a + S128x128.size a ≤ S819200x128.size a} {hst} {hw hw'}
    {K : PUnit → TProg F i α} {A C D X : sProp 𝕄}
    (h : iprop(A ∗ C ∗ D ∗ Idle d i tb l T L B ∗ (Ow d i O W ∗ UD d i o T L m (n + 1) ∗ X)) ⊢ wpT defs d i (K ⟨⟩) Q) :
    iprop(SF d i tb l o T L B n ∗ A ∗ C ∗ D ∗ (Ow d i O W ∗ UD d i o T L m n ∗ X))
      ⊢ wpT defs d i (Prog.lift (.waitDma2 B.ss B.b (o.slice (Rect.unit (s := S819200x128) off S128x128.size inb) hst) hw hw') >>= K) Q :=
  last_in.trans (front_done (last_front.trans h))

end Around

end Cert.KernelIdeal.Tile
-- ==== Proof.KernelIdeal.PartsD.lean ====
module

public import proofs.«01_k».proof.Proof.KernelIdeal.PartsC
public import proofs.«01_k».proof.Proof.KernelIdeal.PartsB
public import proofs.«01_k».proof.Proof.KernelIdeal.Loop

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

attribute [local irreducible] wpT

section Parts

variable {d : Dev nD} {i : grid0.Coords} {arg2 : Memref sig .scVector .hbm S6400x128 .i32} {harg2 : arg2.IsWhole}
  {arg3 : Memref sig .scVector .hbm S100000x128 .f32} {harg3 : arg3.IsWhole} {arg4 : Memref sig .scVector .hbm S819200x128 .f32}
  {harg4 : arg4.IsWhole} {arg5 : Memref sig .scVector .vmem S200x128 .i32} {harg5 : arg5.IsWhole}
  {arg6 : Memref sig .scVector .vmem S128x128 .f32} {harg6 : arg6.IsWhole} {arg7 : Memref sig .scVector .vmem S128x128 .f32} {harg7 : arg7.IsWhole}
  {arg8 : Memref sig .scVector .vmem S128x128 .f32} {harg8 : arg8.IsWhole} {arg9 : Memref sig .scVector .vmem S128x128 .f32} {harg9 : arg9.IsWhole}
  {arg10 arg11 arg12 arg13 arg14 arg15 arg16 arg17 v29_r0 : DmaSems sig S_} {k0_t1 : Fin k0_t1_loop.trips}
  {T : S100000x128.Idx → Elt F .f32} {L : S200x128.Idx → BitVec 32} {O : CellTallies nD τ sig (HIx 1)} {W : Waits sig (HIx 1)}
  {qt ql : Fin 4 → PosShare TreeShare} {defs : Defs nD τ sig (Elt F) Λ₀} {α : Type}

/-- Four more groups of the fourth buffer's indices counted, the next one's mask taken. -/
theorem part77_step {Q : α → sProp 𝕄} {v312 : BitVec 32} {v : IVec S16 32} {K : _ → TProg F i α} {A X : sProp 𝕄} {q : PosShare TreeShare}
    (ht : k0_t1.val < 50) (hv : Cnt v 1 (padAt L (4 * k0_t1.val + 3)))
    (h : ∀ v m, Cnt v 5 (padAt L (4 * k0_t1.val + 3)) → Msk m 80 (padAt L (4 * k0_t1.val + 3)) → iprop(A ∗ hold d i arg5 q L ∗ X) ⊢ wpT defs d i (K ⟨v, m, 0#32, broadcast S16 1#32⟩) Q) :
    iprop(A ∗ hold d i arg5 q L ∗ X)
    ⊢ wpT defs d i (k0_part77 i arg2 harg2 arg3 harg3 arg4 harg4 arg5 harg5 arg6 harg6 arg7 harg7 arg8 harg8 arg9 harg9 arg10 arg11 arg12 arg13 arg14 arg15 arg16 arg17 v29_r0 k0_t1 v312 v >>= K) Q := by
  have hP := fun j hj => pad_iff_at (L := L) (n := 4 * k0_t1.val + 3) (by omega) j hj
  refine call_step ?_
  refine list_step (Gen.k0_off66_eq _) (by omega) (by decide) hP fun raw1 h1 => ?_
  refine list_step (Gen.k0_off67_eq _) (by omega) (by decide) hP fun raw2 h2 => ?_
  refine list_step (Gen.k0_off68_eq _) (by omega) (by decide) hP fun raw3 h3 => ?_
  refine list_step (Gen.k0_off69_eq _) (by omega) (by decide) hP fun raw4 h4 => ?_
  refine list_step (Gen.k0_off70_eq _) (by omega) (by decide) hP fun raw5 h5 => ?_
  refine ret_step ?_
  refine h _ _ (cnt_step (cnt_step (cnt_step (cnt_step hv (msk_load h1) ?_) (msk_load h2) ?_) (msk_load h3) ?_) (msk_load h4) ?_) (msk_load h5) <;> decide

/-- A buffer before the list has come: no share of it yet. -/
def Bare (d : Dev nD) (i : grid0.Coords) (tb : Memref sig .scVector .hbm S100000x128 .f32) (T : S100000x128.Idx → Elt F .f32) (B : Slot) : sProp 𝕄 :=
  iprop((∃ G, hold d i B.b fullShare G) ∗ hold d i tb B.qt T ∗ semVal (thr d i, SemLoc.dma B.gs) 0 ∗ semVal (thr d i, SemLoc.dma B.ss) 0)

/-- What holds as trip `t` begins. -/
def Inv (d : Dev nD) (i : grid0.Coords) (arg3 : Memref sig .scVector .hbm S100000x128 .f32) (arg4 : Memref sig .scVector .hbm S819200x128 .f32)
    (arg5 : Memref sig .scVector .vmem S200x128 .i32) (T : S100000x128.Idx → Elt F .f32) (L : S200x128.Idx → BitVec 32)
    (O : CellTallies nD τ sig (HIx 1)) (W : Waits sig (HIx 1)) (B0 B1 B2 Bl : Slot) (t : ℕ) : sProp 𝕄 :=
  iprop(B3 d i (tbl arg3) arg5 arg4 T L Bl t ∗ Ow d i O W ∗ UD d i arg4 T L (4 * t) (min (4 * t - 1) 196)
    ∗ BF d i (tbl arg3) arg5 arg4 T L B0 0 t ∗ BF d i (tbl arg3) arg5 arg4 T L B1 1 t ∗ BF d i (tbl arg3) arg5 arg4 T L B2 2 t)

section Ends

variable {B0 B1 B2 Bl : Slot} {t : ℕ}

theorem inv_in (ht : t < 50) : Inv d i arg3 arg4 arg5 T L O W B0 B1 B2 Bl t
    ⊢ iprop(B3 d i (tbl arg3) arg5 arg4 T L Bl t ∗ Ow d i O W ∗ UD d i arg4 T L (4 * t) (4 * t - 1)
      ∗ GF d i (tbl arg3) arg5 T L B0 (4 * t) ∗ GF d i (tbl arg3) arg5 T L B1 (4 * t + 1) ∗ GF d i (tbl arg3) arg5 T L B2 (4 * t + 2)) := by
  unfold Inv BF
  rw [if_pos ht, if_pos ht, if_pos ht, show min (4 * t - 1) 196 = 4 * t - 1 from by omega]
  exact (Entails.of_eq rfl)

theorem inv_out (ht : t < 50) : iprop(SF d i (tbl arg3) arg5 arg4 T L Bl (4 * t + 3) ∗ Ow d i O W ∗ UD d i arg4 T L (4 * t + 3 + 1) (min (4 * t + 3) 196)
      ∗ BF d i (tbl arg3) arg5 arg4 T L B0 0 (t + 1) ∗ BF d i (tbl arg3) arg5 arg4 T L B1 1 (t + 1) ∗ BF d i (tbl arg3) arg5 arg4 T L B2 2 (t + 1))
    ⊢ Inv d i arg3 arg4 arg5 T L O W B0 B1 B2 Bl (t + 1) := by
  unfold Inv B3
  rw [if_neg (by omega), show 4 * (t + 1) - 1 = 4 * t + 3 from by omega, show 4 * (t + 1) = 4 * t + 3 + 1 from by omega]

theorem inv_first {R : sProp 𝕄} : iprop(GF d i (tbl arg3) arg5 T L B0 0 ∗ GF d i (tbl arg3) arg5 T L B1 1 ∗ GF d i (tbl arg3) arg5 T L B2 2
      ∗ GF d i (tbl arg3) arg5 T L Bl 3 ∗ (Ow d i O W ∗ UD d i arg4 T L 0 0 ∗ R))
    ⊢ iprop(Inv d i arg3 arg4 arg5 T L O W B0 B1 B2 Bl 0 ∗ R) := by
  unfold Inv B3 BF
  rw [if_pos (rfl : (0 : ℕ) = 0), if_pos (by decide : (0 : ℕ) < 50), if_pos (by decide : (0 : ℕ) < 50), if_pos (by decide : (0 : ℕ) < 50)]
  iintro ⟨H1, H2, H3, H4, H5, H6, H7⟩
  isplitr [H7]
  swap; · iexact H7
  isplitl [H4]; · iexact H4
  isplitl [H5]; · iexact H5
  isplitl [H6]; · iexact H6
  isplitl [H1]; · iexact H1
  isplitl [H2]; · iexact H2
  iexact H3

theorem inv_last {R : sProp 𝕄} : iprop(Inv d i arg3 arg4 arg5 T L O W B0 B1 B2 Bl 50 ∗ R)
    ⊢ iprop(SF d i (tbl arg3) arg5 arg4 T L B0 196 ∗ SF d i (tbl arg3) arg5 arg4 T L B1 197 ∗ SF d i (tbl arg3) arg5 arg4 T L B2 198
      ∗ SF d i (tbl arg3) arg5 arg4 T L Bl 199 ∗ (Ow d i O W ∗ UD d i arg4 T L 200 196 ∗ R)) := by
  unfold Inv B3 BF
  rw [if_neg (by decide : ¬(50 : ℕ) = 0), if_neg (by decide : ¬(50 : ℕ) < 50), if_neg (by decide : ¬(50 : ℕ) < 50), if_neg (by decide : ¬(50 : ℕ) < 50)]
  iintro ⟨⟨H4, H5, H6, H1, H2, H3⟩, H7⟩
  isplitl [H1]; · iexact H1
  isplitl [H2]; · iexact H2
  isplitl [H3]; · iexact H3
  isplitl [H4]; · iexact H4
  isplitl [H5]; · iexact H5
  isplitl [H6]; · iexact H6
  iexact H7

end Ends

theorem deal {src : sProp 𝕄} {v R : sProp 𝕄} {B0 B1 B2 Bl : Slot}
    (hq : (hold d i arg5 fullShare L : sProp 𝕄) ⊢ iprop(hold d i arg5 B0.ql L ∗ hold d i arg5 B1.ql L ∗ hold d i arg5 B2.ql L ∗ hold d i arg5 Bl.ql L)) :
    iprop(src ∗ hold d i arg5 fullShare L ∗ v ∗ Ow d i O W ∗ (UD d i arg4 T L 0 0 ∗ Bare d i (tbl arg3) T B0 ∗ Bare d i (tbl arg3) T B1
      ∗ Bare d i (tbl arg3) T B2 ∗ Bare d i (tbl arg3) T Bl ∗ R))
    ⊢ iprop(Idle d i (tbl arg3) arg5 T L B0 ∗ Idle d i (tbl arg3) arg5 T L B1 ∗ Idle d i (tbl arg3) arg5 T L B2 ∗ Idle d i (tbl arg3) arg5 T L Bl
      ∗ (Ow d i O W ∗ UD d i arg4 T L 0 0 ∗ (src ∗ v ∗ R))) := by
  unfold Bare Idle Tok
  iintro ⟨H1, H2, H3, H4, H5, ⟨H6, H7, H8, H9⟩, ⟨H10, H11, H12, H13⟩, ⟨H14, H15, H16, H17⟩, ⟨H18, H19, H20, H21⟩, H22⟩
  ihave H := hq $$ H2
  icases H with ⟨HA, HB, HC, HD⟩
  iframe

end Parts

end Cert.KernelIdeal.Tile
-- ==== Proof.KernelIdeal.PartsM.lean ====
module

public import proofs.«01_k».proof.Proof.KernelIdeal.PartsD

@[expose] public section

noncomputable section

namespace Cert.KernelIdeal.Tile

open Cert.KernelIdeal
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

attribute [local irreducible] wpT

section Parts

variable {d : Dev nD} {i : grid0.Coords} {arg2 : Memref sig .scVector .hbm S6400x128 .i32} {harg2 : arg2.IsWhole}
  {arg3 : Memref sig .scVector .hbm S100000x128 .f32} {harg3 : arg3.IsWhole} {arg4 : Memref sig .scVector .hbm S819200x128 .f32}
  {harg4 : arg4.IsWhole} {arg5 : Memref sig .scVector .vmem S200x128 .i32} {harg5 : arg5.IsWhole}
  {arg6 : Memref sig .scVector .vmem S128x128 .f32} {harg6 : arg6.IsWhole} {arg7 : Memref sig .scVector .vmem S128x128 .f32} {harg7 : arg7.IsWhole}
  {arg8 : Memref sig .scVector .vmem S128x128 .f32} {harg8 : arg8.IsWhole} {arg9 : Memref sig .scVector .vmem S128x128 .f32} {harg9 : arg9.IsWhole}
  {arg10 arg11 arg12 arg13 arg14 arg15 arg16 arg17 v29_r0 : DmaSems sig S_} {k0_t1 : Fin k0_t1_loop.trips}
  {T : S100000x128.Idx → Elt F .f32} {L : S200x128.Idx → BitVec 32} {O : CellTallies nD τ sig (HIx 1)} {W : Waits sig (HIx 1)}
  {qt ql : Fin 4 → PosShare TreeShare} {defs : Defs nD τ sig (Elt F) Λ₀} {α : Type}

set_option maxHeartbeats 4000000 in
/-- The list fetched, the first four gathers issued, and the fifty trips. -/
theorem part78_step {Q : α → sProp 𝕄} {K : BitVec 32 → TProg F i α} {R : sProp 𝕄} {qs : PosShare TreeShare}
    (hin : ∀ x, (L x).toNat < 100000)
    (hcr0 : ∀ h : S100000x128.Gathers 0 S128x128, ∑ j, (arg6.slice (S128x128.rowRect h.axis' j) (S128x128.stride_rowRect h.axis' j)).view.dmaCredit = arg6.view.dmaCredit)
    (hcr1 : ∀ h : S100000x128.Gathers 0 S128x128, ∑ j, (arg7.slice (S128x128.rowRect h.axis' j) (S128x128.stride_rowRect h.axis' j)).view.dmaCredit = arg7.view.dmaCredit)
    (hcr2 : ∀ h : S100000x128.Gathers 0 S128x128, ∑ j, (arg8.slice (S128x128.rowRect h.axis' j) (S128x128.stride_rowRect h.axis' j)).view.dmaCredit = arg8.view.dmaCredit)
    (hcr3 : ∀ h : S100000x128.Gathers 0 S128x128, ∑ j, (arg9.slice (S128x128.rowRect h.axis' j) (S128x128.stride_rowRect h.axis' j)).view.dmaCredit = arg9.view.dmaCredit)
    (hq : (hold d i arg5 fullShare L : sProp 𝕄) ⊢ iprop(hold d i arg5 (ql 0) L ∗ hold d i arg5 (ql 1) L ∗ hold d i arg5 (ql 2) L ∗ hold d i arg5 (ql 3) L))
    (h : ∀ v2, iprop(SF d i (tbl arg3) arg5 arg4 T L (slotOf arg6 arg10 arg14 (qt 0) (ql 0)) 196 ∗ SF d i (tbl arg3) arg5 arg4 T L (slotOf arg7 arg11 arg15 (qt 1) (ql 1)) 197 ∗ SF d i (tbl arg3) arg5 arg4 T L (slotOf arg8 arg12 arg16 (qt 2) (ql 2)) 198 ∗ SF d i (tbl arg3) arg5 arg4 T L (slotOf arg9 arg13 arg17 (qt 3) (ql 3)) 199
      ∗ (Ow d i O W ∗ UD d i arg4 T L 200 196 ∗ (hold d i (arg2.slice (Rect.unit (s := S6400x128) (k0_off1 i) S200x128.size (k0_off1_inb i)) (fun _ => rfl)) qs L ∗ semVal (thr d i, SemLoc.dma v29_r0.sem) 0 ∗ R))) ⊢ wpT defs d i (K v2) Q) :
    iprop(hold d i (arg2.slice (Rect.unit (s := S6400x128) (k0_off1 i) S200x128.size (k0_off1_inb i)) (fun _ => rfl)) qs L ∗ (∃ G, hold d i arg5 fullShare G) ∗ semVal (thr d i, SemLoc.dma v29_r0.sem) 0 ∗ Ow d i O W
      ∗ (UD d i arg4 T L 0 0 ∗ Bare d i (tbl arg3) T (slotOf arg6 arg10 arg14 (qt 0) (ql 0)) ∗ Bare d i (tbl arg3) T (slotOf arg7 arg11 arg15 (qt 1) (ql 1)) ∗ Bare d i (tbl arg3) T (slotOf arg8 arg12 arg16 (qt 2) (ql 2)) ∗ Bare d i (tbl arg3) T (slotOf arg9 arg13 arg17 (qt 3) (ql 3)) ∗ R))
    ⊢ wpT defs d i (k0_part78 i arg2 harg2 arg3 harg3 arg4 harg4 arg5 harg5 arg6 harg6 arg7 harg7 arg8 harg8 arg9 harg9 arg10 arg11 arg12 arg13 arg14 arg15 arg16 arg17 v29_r0 >>= K) Q := by
  refine call_step ?_
  refine fetch_step ?_
  refine (deal (B0 := slotOf arg6 arg10 arg14 (qt 0) (ql 0)) (B1 := slotOf arg7 arg11 arg15 (qt 1) (ql 1)) (B2 := slotOf arg8 arg12 arg16 (qt 2) (ql 2))
    (Bl := slotOf arg9 arg13 arg17 (qt 3) (ql 3)) hq).trans ?_
  refine first_gather (B := slotOf arg6 arg10 arg14 (qt 0) (ql 0)) (n := 0) rfl (by decide) hcr0 hin ?_
  refine first_gather (B := slotOf arg7 arg11 arg15 (qt 1) (ql 1)) (n := 1) rfl (by decide) hcr1 hin ?_
  refine first_gather (B := slotOf arg8 arg12 arg16 (qt 2) (ql 2)) (n := 2) rfl (by decide) hcr2 hin ?_
  refine first_gather (B := slotOf arg9 arg13 arg17 (qt 3) (ql 3)) (n := 3) rfl (by decide) hcr3 hin ?_
  refine inv_first.trans ?_
  refine loop_step (I := Inv d i arg3 arg4 arg5 T L O W (slotOf arg6 arg10 arg14 (qt 0) (ql 0)) (slotOf arg7 arg11 arg15 (qt 1) (ql 1)) (slotOf arg8 arg12 arg16 (qt 2) (ql 2)) (slotOf arg9 arg13 arg17 (qt 3) (ql 3))) (fun k0_t1 => ?_) ?_
  · have ht : k0_t1.val < 50 := k0_t1.isLt
    have hP := fun j hj => pad_iff_at (L := L) (n := 4 * k0_t1.val + 3) (by omega) j hj
    refine (inv_in ht).trans ?_
    refine part69_step ht hin hcr3 fun v29 v30 v m hv hm => ?_
    refine part70_step ht hv hm fun v hv => ?_
    refine part71_step ht hin hcr0 hv fun v124 m hm => ?_
    refine part72_step ht cnt_zero hm fun v hv => ?_
    refine part73_step ht hv fun v218 v219 c => ?_
    refine part74_step ht hin hcr1 fun v hv => ?_
    refine part75_step ht hv fun v m hv hm => ?_
    refine part76_step ht hin hcr2 hv hm fun v312 v hv => ?_
    refine part77_step ht hv fun v m hv hm => ?_
    refine list_step (Gen.k0_off71_eq _) (by omega) (by decide) hP fun raw6 h6 => ?_
    refine list_step (Gen.k0_off72_eq _) (by omega) (by decide) hP fun raw7 h7 => ?_
    refine clear_ite (any_iff (cnt_step (cnt_step (cnt_step hv hm (by decide)) (msk_load h6) (by decide)) (msk_load h7) (by decide))) ?_ ?_
    · refine front_store (B := slotOf arg9 arg13 arg17 (qt 3) (ql 3)) (n := 4 * k0_t1.val + 3) ?_ (by omega) ?_
      · rw [Gen.k0_off81_eq]; unfold pieceOff; congr 1; omega
      refine ret_end ?_
      exact inv_out ht
    · intro he
      have hci : 4 * k0_t1.val + 3 < 200 := by omega
      try with_reducible refine ret_step ?_
      first
        | with_reducible refine list_step (F := F) (Gen.k0_off73_eq k0_t1) hci (Nat.le_of_ble_eq_true rfl) hP fun raw hraw => ?_
        | (with_reducible refine call_step ?_); refine list_step (F := F) (Gen.k0_off73_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off74_eq k0_t1) hci (Nat.le_of_ble_eq_true rfl) hP fun raw hraw => ?_
        | (with_reducible refine call_step ?_); refine list_step (F := F) (Gen.k0_off74_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off75_eq k0_t1) hci (Nat.le_of_ble_eq_true rfl) hP fun raw hraw => ?_
        | (with_reducible refine call_step ?_); refine list_step (F := F) (Gen.k0_off75_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off76_eq k0_t1) hci (Nat.le_of_ble_eq_true rfl) hP fun raw hraw => ?_
        | (with_reducible refine call_step ?_); refine list_step (F := F) (Gen.k0_off76_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off77_eq k0_t1) hci (Nat.le_of_ble_eq_true rfl) hP fun raw hraw => ?_
        | (with_reducible refine call_step ?_); refine list_step (F := F) (Gen.k0_off77_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off78_eq k0_t1) hci (Nat.le_of_ble_eq_true rfl) hP fun raw hraw => ?_
        | (with_reducible refine call_step ?_); refine list_step (F := F) (Gen.k0_off78_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off79_eq k0_t1) hci (Nat.le_of_ble_eq_true rfl) hP fun raw hraw => ?_
        | (with_reducible refine call_step ?_); refine list_step (F := F) (Gen.k0_off79_eq k0_t1) hci (by decide) hP fun raw hraw => ?_
      iterate 16
        try with_reducible refine ret_step ?_
        try with_reducible refine call_step ?_
        refine row_step (pad_iff hraw (by decide)) ?_
      try with_reducible refine ret_step ?_
      first
        | with_reducible refine list_step (F := F) (Gen.k0_off80_eq k0_t1) hci (Nat.le_of_ble_eq_true rfl) hP fun raw hraw => ?_
        | (with_reducible refine call_step ?_); refine list_step (F := F) (Gen.k0_off80_eq k0_t1) hci (by decide) hP fun raw hraw => ?_
      iterate 16
        try with_reducible refine ret_step ?_
        try with_reducible refine call_step ?_
        refine row_step (pad_iff hraw (by decide)) ?_
      exact he
  · refine ret_step ?_
    exact inv_last.trans (h _)

/-- THE SUBCORE'S PROGRAM: from the list in memory, the table's shares and the result's pieces at any contents, to the pieces holding the chunks. -/
theorem kernel_step {qs : PosShare TreeShare} {R : sProp 𝕄}
    (hin : ∀ x, (L x).toNat < 100000)
    (hcr0 : ∀ h : S100000x128.Gathers 0 S128x128, ∑ j, (arg6.slice (S128x128.rowRect h.axis' j) (S128x128.stride_rowRect h.axis' j)).view.dmaCredit = arg6.view.dmaCredit)
    (hcr1 : ∀ h : S100000x128.Gathers 0 S128x128, ∑ j, (arg7.slice (S128x128.rowRect h.axis' j) (S128x128.stride_rowRect h.axis' j)).view.dmaCredit = arg7.view.dmaCredit)
    (hcr2 : ∀ h : S100000x128.Gathers 0 S128x128, ∑ j, (arg8.slice (S128x128.rowRect h.axis' j) (S128x128.stride_rowRect h.axis' j)).view.dmaCredit = arg8.view.dmaCredit)
    (hcr3 : ∀ h : S100000x128.Gathers 0 S128x128, ∑ j, (arg9.slice (S128x128.rowRect h.axis' j) (S128x128.stride_rowRect h.axis' j)).view.dmaCredit = arg9.view.dmaCredit)
    (hq : (hold d i arg5 fullShare L : sProp 𝕄) ⊢ iprop(hold d i arg5 (ql 0) L ∗ hold d i arg5 (ql 1) L ∗ hold d i arg5 (ql 2) L ∗ hold d i arg5 (ql 3) L)) :
    iprop(hold d i (arg2.slice (Rect.unit (s := S6400x128) (k0_off1 i) S200x128.size (k0_off1_inb i)) (fun _ => rfl)) qs L ∗ (∃ G, hold d i arg5 fullShare G) ∗ semVal (thr d i, SemLoc.dma v29_r0.sem) 0 ∗ Ow d i O W
      ∗ (UD d i arg4 T L 0 0 ∗ Bare d i (tbl arg3) T (slotOf arg6 arg10 arg14 (qt 0) (ql 0)) ∗ Bare d i (tbl arg3) T (slotOf arg7 arg11 arg15 (qt 1) (ql 1)) ∗ Bare d i (tbl arg3) T (slotOf arg8 arg12 arg16 (qt 2) (ql 2)) ∗ Bare d i (tbl arg3) T (slotOf arg9 arg13 arg17 (qt 3) (ql 3)) ∗ R))
    ⊢ wpT defs d i (cc0__sc_gather i arg2 harg2 arg3 harg3 arg4 harg4 arg5 harg5 arg6 harg6 arg7 harg7 arg8 harg8 arg9 harg9 arg10 arg11 arg12 arg13 arg14 arg15 arg16 arg17 v29_r0) fun _ => iprop(Idle d i (tbl arg3) arg5 T L (slotOf arg6 arg10 arg14 (qt 0) (ql 0)) ∗ Idle d i (tbl arg3) arg5 T L (slotOf arg7 arg11 arg15 (qt 1) (ql 1)) ∗ Idle d i (tbl arg3) arg5 T L (slotOf arg8 arg12 arg16 (qt 2) (ql 2)) ∗ Idle d i (tbl arg3) arg5 T L (slotOf arg9 arg13 arg17 (qt 3) (ql 3))
      ∗ (Ow d i O W ∗ UD d i arg4 T L 200 200 ∗ (hold d i (arg2.slice (Rect.unit (s := S6400x128) (k0_off1 i) S200x128.size (k0_off1_inb i)) (fun _ => rfl)) qs L ∗ semVal (thr d i, SemLoc.dma v29_r0.sem) 0 ∗ R))) := by
  refine part78_step hin hcr0 hcr1 hcr2 hcr3 hq fun v2 => ?_
  refine last_wait (B := slotOf arg6 arg10 arg14 (qt 0) (ql 0)) ?_
  refine last_wait (B := slotOf arg7 arg11 arg15 (qt 1) (ql 1)) ?_
  refine last_wait (B := slotOf arg8 arg12 arg16 (qt 2) (ql 2)) ?_
  refine last_wait (B := slotOf arg9 arg13 arg17 (qt 3) (ql 3)) ?_
  exact ret_end (Entails.of_eq rfl)

end Parts

end Cert.KernelIdeal.Tile
-- ==== Proof.KernelIdeal.Tile.lean ====
/-
  One subcore's task, in the launch's terms. The list is cut among the subcores by rows, the result by chunks, and the
  table is read by all of them, each with its own share. From its part of the three arrays and the memory and semaphores
  it is given for itself, the subcore runs the kernel and gives everything back, its part of the result filled.
-/
module

public import proofs.«01_k».proof.Proof.KernelIdeal.PartsM

@[expose] public section

noncomputable section

namespace Cert.KernelIdeal.Tile

open Cert.KernelIdeal
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

attribute [local irreducible] wpT

/-! ## The arrays -/

abbrev aLoc (d : Dev nD) : Loc nD τ sig := (SparseCore.T d).loc main_arg0
abbrev xLoc (d : Dev nD) : Loc nD τ sig := (SparseCore.T d).loc main_arg1
abbrev lLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev lM : Memref sig .scVector .hbm S6400x128 .i32 := Memref.whole main_v0_scv
abbrev xM : Memref sig .scVector .hbm S100000x128 .f32 := Memref.whole main_arg1_scv
abbrev oM : Memref sig .scVector .hbm S819200x128 .f32 := Memref.whole main_v1_scv

/-! ## Who has which part -/

/-- The grid point of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem lt_two (i : grid0.Coords) : (i 0).val < 2 := (i 0).isLt
theorem lt_sixteen (i : grid0.Coords) : (i 1).val < 16 := (i 1).isLt

/-- Grid point `i`'s part of the list. -/
abbrev lSrc (i : grid0.Coords) : Memref sig .scVector .hbm S200x128 .i32 :=
  lM.slice (Rect.unit (s := S6400x128) (k0_off1 i) S200x128.size (k0_off1_inb i)) (fun _ => rfl)

theorem pieceOff_inb (i : grid0.Coords) {n : ℕ} (hn : n < 200) : ∀ a, pieceOff i n a + S128x128.size a ≤ S819200x128.size a := by
  have h0 := lt_two i
  have h1 := lt_sixteen i
  intro a
  match a with
  | 0 => show 51200 * (i 1).val + 25600 * (i 0).val + 128 * n + 128 ≤ 819200; omega
  | 1 => exact Nat.le_refl 128

/-- The elements of grid point `i`'s part of the list, -/
def lSet (i : grid0.Coords) : Finset S6400x128.Idx := (lSrc i).view.set

/-- and of its chunk `n` in the result. -/
def oSet (i : grid0.Coords) (n : Fin 200) : Finset S819200x128.Idx := (piece i oM n.val (pieceOff_inb i n.isLt)).view.set

theorem mem_lSet {i : grid0.Coords} {x : S6400x128.Idx} :
    x ∈ lSet i ↔ 400 * (i 1).val + 200 * (i 0).val ≤ (x 0).val ∧ (x 0).val < 400 * (i 1).val + 200 * (i 0).val + 200 := by
  have e : lSet i = (Rect.unit (s := S6400x128) (k0_off1 i) S200x128.size (k0_off1_inb i)).set :=
    (View.set_slice (lM).view _).trans Finset.map_refl
  have hx : (x 1).val < 128 := (x 1).isLt
  rw [e, Rect.mem_set_unit, Gen.k0_off1_eq]
  constructor
  · intro h
    exact h 0
  · intro h a
    match a with
    | 0 => exact h
    | 1 => exact ⟨Nat.zero_le _, by show (x 1).val < 0 + 128; omega⟩

theorem mem_oSet {i : grid0.Coords} {n : Fin 200} {x : S819200x128.Idx} :
    x ∈ oSet i n ↔ 51200 * (i 1).val + 25600 * (i 0).val + 128 * n.val ≤ (x 0).val
      ∧ (x 0).val < 51200 * (i 1).val + 25600 * (i 0).val + 128 * n.val + 128 := by
  have e : oSet i n = (Rect.unit (s := S819200x128) (pieceOff i n.val) S128x128.size (pieceOff_inb i n.isLt)).set :=
    (View.set_slice (oM).view _).trans Finset.map_refl
  have hx : (x 1).val < 128 := (x 1).isLt
  rw [e, Rect.mem_set_unit]
  constructor
  · intro h
    exact h 0
  · intro h a
    match a with
    | 0 => exact h
    | 1 => exact ⟨Nat.zero_le _, by show (x 1).val < 0 + 128; omega⟩

/-- The whole table is what the kernel's slice of it holds. -/
theorem tbl_set : (tbl xM).view.set = (Finset.univ : Finset S100000x128.Idx) := by
  have e : (tbl xM).view.set = (Rect.unit (s := S100000x128) ![0, 0] S100000x128.size inb_S100000x128_S100000x128_0_0).set :=
    (View.set_slice (xM).view _).trans Finset.map_refl
  rw [e]
  refine Finset.eq_univ_iff_forall.mpr fun x => Rect.mem_set_unit.mpr fun a => ?_
  match a with
  | 0 => exact ⟨Nat.zero_le _, by have h : (x 0).val < 100000 := (x 0).isLt; show (x 0).val < 0 + 100000; omega⟩
  | 1 => exact ⟨Nat.zero_le _, by have h : (x 1).val < 128 := (x 1).isLt; show (x 1).val < 0 + 128; omega⟩

/-! ## What the result holds -/

/-- The place in the list of row `r` of the result. -/
def lrow (r : ℕ) (hr : r < 819200) : S6400x128.Idx :=
  fun a => ⟨(![r / 128, r % 128] : Fin 2 → ℕ) a, by
    match a with
    | 0 => show r / 128 < 6400; omega
    | 1 => show r % 128 < 128; omega⟩

/-- The result: in each row the table's row the list names, or zeros for the padding index. -/
def outV (X : S100000x128.Idx → Elt F .f32) (LV : S6400x128.Idx → BitVec 32) : S819200x128.Idx → Elt F .f32 :=
  fun y => if LV (lrow (y 0).val (y 0).isLt) = 99999#32 then zf else tabAt X (LV (lrow (y 0).val (y 0).isLt)).toNat (y 1).val

/-- Grid point `i`'s part of list `LV`. -/
def listOf (i : grid0.Coords) (LV : S6400x128.Idx → BitVec 32) : S200x128.Idx → BitVec 32 := (lSrc i).view.read (Elt F) LV

theorem listOf_at (i : grid0.Coords) (LV : S6400x128.Idx → BitVec 32) {n j r : ℕ} (hn : n < 200) (hj : j < 128) (hr : r < 819200)
    (e : r = 51200 * (i 1).val + 25600 * (i 0).val + 128 * n + j) : listOf (F := F) i LV (at2 n j hn hj) = LV (lrow r hr) := by
  show LV ((Rect.unit (s := S6400x128) (k0_off1 i) S200x128.size (k0_off1_inb i)).idx (at2 n j hn hj)) = _
  refine congrArg LV (funext fun a => Fin.ext ?_)
  have ho := Gen.k0_off1_eq i
  match a with
  | 0 =>
    show k0_off1 i 0 + 1 * n = r / 128
    rw [ho]
    show 400 * (i 1).val + 200 * (i 0).val + 1 * n = r / 128
    omega
  | 1 =>
    show k0_off1 i 1 + 1 * j = r % 128
    rw [ho]
    show 0 + 1 * j = r % 128
    omega

/-- Chunk `n` of grid point `i`, read out of the result. -/
theorem read_out (i : grid0.Coords) (X : S100000x128.Idx → Elt F .f32) (LV : S6400x128.Idx → BitVec 32) {n : ℕ} (hn : n < 200)
    (h : ∀ a, pieceOff i n a + S128x128.size a ≤ S819200x128.size a) :
    (piece i oM n h).view.read (Elt F) (outV X LV) = chunk X (listOf (F := F) i LV) n := by
  funext x
  have h0 : (x 0).val < 128 := (x 0).isLt
  have hr : 51200 * (i 1).val + 25600 * (i 0).val + 128 * n + 1 * (x 0).val < 819200 := by
    have := lt_two i; have := lt_sixteen i; omega
  have e1 : (0 : ℕ) + 1 * (x 1).val = (x 1).val := by omega
  have el := listOf_at (F := F) i LV hn h0 hr (by omega)
  have ei : idxAt (listOf (F := F) i LV) n (x 0).val = LV (lrow _ hr) := by unfold idxAt; rw [dif_pos ⟨hn, h0⟩, el]
  show outV X LV ((Rect.unit (s := S819200x128) (pieceOff i n) S128x128.size h).idx x) = _
  show (if LV (lrow _ hr) = 99999#32 then zf else tabAt X (LV (lrow _ hr)).toNat (0 + 1 * (x 1).val)) = _
  unfold chunk cleared padAt rowsOf
  rw [ei, e1]
  simp only [h0, true_and]

end Cert.KernelIdeal.Tile
-- ==== Proof.KernelIdeal.Task.lean ====
/-
  The subcore's task, run: the part of the list, the share of the table and the part of the result it is given become
  what the kernel's proof speaks of, and after the run become what it gives back.
-/
module

public import proofs.«01_k».proof.Proof.KernelIdeal.Tile
public import Idealize.ShloMosaic.Lib.Pipeline.Kit

@[expose] public section

noncomputable section

namespace Cert.KernelIdeal.Tile

open Cert.KernelIdeal
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

/-! ## The program as the launch sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem sc_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## What the subcore is given for itself -/

section Own

variable {d : Dev nD} {i : grid0.Coords}

/-- A conjunction over a set is one over the image of a smaller set and one over the rest. -/
theorem bigSep_pick {I J : Type} [DecidableEq I] [DecidableEq J] {s : Finset J} {t : Finset I} {f : I → J} (hf : Function.Injective f)
    (h : ∀ a ∈ t, f a ∈ s) (Φ : J → sProp 𝕄) :
    bigSep s Φ = iprop((bigSep t fun a => Φ (f a)) ∗ bigSep (s \ t.image f) Φ) := by
  have hs : t.image f ⊆ s := fun b hb => by
    obtain ⟨a, ha, rfl⟩ := Finset.mem_image.mp hb
    exact h a ha
  conv_lhs => rw [← Finset.union_sdiff_of_subset hs, bigSep_union Finset.disjoint_sdiff]
  rw [SparseCore.bigSep_image_of_injOn (fun _ _ _ _ e => hf e)]
  rfl

abbrev semSet : Finset (SemLoc sig) :=
  {.dma cc0_scoped0.sem, .dma cc0_scratch5.sem, .dma cc0_scratch6.sem, .dma cc0_scratch7.sem, .dma cc0_scratch8.sem,
    .dma cc0_scratch9.sem, .dma cc0_scratch10.sem, .dma cc0_scratch11.sem, .dma cc0_scratch12.sem}

abbrev refSet : Finset (Ref sig .scVector) := {cc0_scratch0, cc0_scratch1, cc0_scratch2, cc0_scratch3, cc0_scratch4}

theorem semSet_scoped : ∀ s ∈ semSet, s.isScoped .scVector = true := by decide

/-- The rest of the subcore's semaphores, -/
def semRest (d : Dev nD) (i : grid0.Coords) : sProp 𝕄 :=
  bigSep (ownCells (thr d i) \ semSet.image fun s => ((thr d i, s) : GSem nD τ sig)) fun g => semVal g 0

/-- and of its buffers. -/
def bufRest (d : Dev nD) (i : grid0.Coords) : sProp 𝕄 :=
  bigSep (ownRefs (thr d i).2 \ refSet.image fun b => (Proc.scVector (cV i) (jV i)).devRef b) fun b => iprop(∃ f, ((d, b) : Loc nD τ sig) ↦{fullShare} f)

/-- The kernel's nine semaphores are among the subcore's own; -/
theorem own_sems : (ownSems0 (thr d i) : sProp 𝕄)
    = iprop((semVal (thr d i, SemLoc.dma cc0_scoped0.sem) 0 ∗ semVal (thr d i, SemLoc.dma cc0_scratch5.sem) 0
      ∗ semVal (thr d i, SemLoc.dma cc0_scratch6.sem) 0 ∗ semVal (thr d i, SemLoc.dma cc0_scratch7.sem) 0
      ∗ semVal (thr d i, SemLoc.dma cc0_scratch8.sem) 0 ∗ semVal (thr d i, SemLoc.dma cc0_scratch9.sem) 0
      ∗ semVal (thr d i, SemLoc.dma cc0_scratch10.sem) 0 ∗ semVal (thr d i, SemLoc.dma cc0_scratch11.sem) 0
      ∗ semVal (thr d i, SemLoc.dma cc0_scratch12.sem) 0) ∗ semRest d i) := by
  unfold SparseCore.Cfg.ownSems0 semRest
  rw [bigSep_pick (t := semSet) (f := fun s => ((thr d i, s) : GSem nD τ sig)) (fun _ _ e => (Prod.mk.inj e).2)
    (fun s hs => mem_ownCells.mpr ⟨rfl, semSet_scoped s hs⟩)]
  refine congrArg (fun A : sProp 𝕄 => iprop(A ∗ _)) ?_
  unfold semSet
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- and its five buffers among the subcore's. -/
theorem own_bufs : (ownBufs (thr d i) : sProp 𝕄)
    = iprop(((∃ f, (thr d i).loc cc0_scratch0 ↦{fullShare} f) ∗ (∃ f, (thr d i).loc cc0_scratch1 ↦{fullShare} f)
      ∗ (∃ f, (thr d i).loc cc0_scratch2 ↦{fullShare} f) ∗ (∃ f, (thr d i).loc cc0_scratch3 ↦{fullShare} f)
      ∗ (∃ f, (thr d i).loc cc0_scratch4 ↦{fullShare} f)) ∗ bufRest d i) := by
  unfold SparseCore.Cfg.ownBufs bufRest
  rw [bigSep_pick (t := refSet) (f := fun b => (Proc.scVector (cV i) (jV i)).devRef b) (fun _ _ e => Proc.devRef_injective _ e)
    (fun b hb => by
      refine SparseCore.Cfg.mem_ownRefs_of_owner (p := Proc.scVector (cV i) (jV i)) ?_
      fin_cases hb <;> rfl)]
  refine congrArg (fun A : sProp 𝕄 => iprop(A ∗ _)) ?_
  unfold refSet
  rw [SparseCore.bigSep_insert' (by decide), SparseCore.bigSep_insert' (by decide), SparseCore.bigSep_insert' (by decide),
    SparseCore.bigSep_insert' (by decide), bigSep_singleton]

/-- A scratch buffer whole is its memref held. -/
theorem scratch_hold {s : Shape} {e : EltTy} {b : Memref sig .scVector .vmem s e}
    (hb : b.view.set = Finset.univ) (f : Buf (Elt F) (b.view.loc (thr d i))) :
    (b.view.loc (thr d i) ↦{fullShare} f : sProp 𝕄) ⊢ iprop(∃ G, hold d i b fullShare G) := by
  iintro H
  iexists _
  iapply (hold_of (f := f) rfl)
  rw [hb]
  iexact H

theorem hold_scratch {s : Shape} {e : EltTy} {b : Memref sig .scVector .vmem s e} (hb : b.view.set = Finset.univ) {G : s.Idx → Elt F e} :
    (hold d i b fullShare G : sProp 𝕄) ⊢ iprop(∃ f : Buf (Elt F) (b.view.loc (thr d i)), b.view.loc (thr d i) ↦{fullShare} f) := by
  unfold hold
  rw [hb]
  iintro ⟨%f, -, H⟩
  iexists f
  iexact H

end Own

/-! ## The task -/

/-- SparseCore `c`'s share of the table and grid point `i`'s. -/
def xq (i : grid0.Coords) : PosShare TreeShare := Transfers.dealOf (Transfers.dealOf fullShare Finset.univ (i 0)) Finset.univ (i 1)

/-- Grid point `i`'s part of the arrays: of list `LV`, of table `X`, and of the result, which holds `f`. -/
def Task (d : Dev nD) (i : grid0.Coords) (LV : Buf (Elt F) (lLoc d)) (X : Buf (Elt F) (xLoc d)) (f : Buf (Elt F) (oLoc d)) : sProp 𝕄 :=
  iprop((lLoc d ↦[lSet i]{fullShare} LV) ∗ (xLoc d ↦{xq i} X) ∗ bigSep Finset.univ fun n : Fin 200 => oLoc d ↦[oSet i n]{fullShare} f)

section Run

variable {d : Dev nD} {i : grid0.Coords} {LV : Buf (Elt F) (lLoc d)} {X : Buf (Elt F) (xLoc d)}

theorem list_hold : (lLoc d ↦[lSet i]{fullShare} LV : sProp 𝕄) ⊢ hold d i (lSrc i) fullShare (listOf (F := F) i LV) :=
  hold_of (b := lSrc i) (f := LV) rfl

theorem hold_list : (hold d i (lSrc i) fullShare (listOf (F := F) i LV) : sProp 𝕄) ⊢ lLoc d ↦[lSet i]{fullShare} LV :=
  hold_to (b := lSrc i) (f := LV) rfl

/-- Through the kernel's slice of it the table reads itself. -/
theorem read_tbl : (tbl xM).view.read (Elt F) X = X := by
  funext x
  refine congrArg X (funext fun a => Fin.ext ?_)
  match a with
  | 0 => show 0 + 1 * (x 0).val = (x 0).val; omega
  | 1 => show 0 + 1 * (x 1).val = (x 1).val; omega

theorem table_hold {q : PosShare TreeShare} : (xLoc d ↦{q} X : sProp 𝕄) ⊢ hold d i (tbl xM) q X :=
  (Entails.of_eq (by rw [← tbl_set])).trans (hold_of (b := tbl xM) (f := X) read_tbl)

theorem hold_table {q : PosShare TreeShare} : (hold d i (tbl xM) q X : sProp 𝕄) ⊢ xLoc d ↦{q} X :=
  (hold_to (b := tbl xM) (f := X) read_tbl).trans (Entails.of_eq (by rw [← tbl_set]))

theorem bigSep_range (k : ℕ) (Φ : ℕ → sProp 𝕄) : (bigSep Finset.univ fun n : Fin k => Φ n.val) = bigSep (Finset.range k) Φ := by
  rw [← Nat.Iio_eq_range, ← Fin.map_valEmbedding_univ, bigSep_map]
  rfl

/-- One chunk's part of the result before the run, -/
theorem chunk_free {f : Buf (Elt F) (oLoc d)} (n : Fin 200) : (oLoc d ↦[oSet i n]{fullShare} f : sProp 𝕄) ⊢ Free (F := F) d i oM n.val := by
  have e : (oLoc d ↦[oSet i n]{fullShare} f : sProp 𝕄) ⊢ hold d i (piece i oM n.val (pieceOff_inb i n.isLt)) fullShare _ :=
    hold_of (b := piece i oM n.val (pieceOff_inb i n.isLt)) (f := f) rfl
  unfold Free
  iintro H
  iexists (pieceOff_inb i n.isLt)
  iexists _
  iapply e $$ H

/-- and after it. -/
theorem chunk_full (n : Fin 200) : (Full (F := F) d i oM X (listOf (F := F) i LV) n.val : sProp 𝕄)
    ⊢ oLoc d ↦[oSet i n]{fullShare} (outV X LV : Buf (Elt F) (oLoc d)) := by
  have e : ∀ h, (hold d i (piece i oM n.val h) fullShare (chunk X (listOf (F := F) i LV) n.val) : sProp 𝕄)
      ⊢ oLoc d ↦[oSet i n]{fullShare} (outV X LV : Buf (Elt F) (oLoc d)) :=
    fun h => hold_to (b := piece i oM n.val h) (f := outV X LV) (read_out i X LV n.isLt h)
  unfold Full
  iintro ⟨%h, H⟩
  iapply (e h) $$ H

/-- The part of the result the subcore has, chunk by chunk, before the run, -/
theorem chunks_free {f : Buf (Elt F) (oLoc d)} {T : S100000x128.Idx → Elt F .f32} {L : S200x128.Idx → BitVec 32} :
    (bigSep Finset.univ fun n : Fin 200 => (oLoc d ↦[oSet i n]{fullShare} f : sProp 𝕄)) ⊢ UD d i oM T L 0 0 := by
  have e : (bigSep Finset.univ fun n : Fin 200 => (oLoc d ↦[oSet i n]{fullShare} f : sProp 𝕄)) ⊢ bigSep (Finset.range 200) fun n => Free (F := F) d i oM n :=
    (bigSep_mono fun n _ => chunk_free n).trans (Entails.of_eq (bigSep_range 200 fun n => Free (F := F) d i oM n))
  unfold UD
  rw [Finset.range_zero, bigSep_empty, show Finset.Ico 0 200 = Finset.range 200 from by ext; simp]
  iintro H
  isplitl [H]
  · iapply e $$ H
  · iempintro

/-- and after it. -/
theorem chunks_full : (UD d i oM X (listOf (F := F) i LV) 200 200 : sProp 𝕄)
    ⊢ bigSep Finset.univ fun n : Fin 200 => oLoc d ↦[oSet i n]{fullShare} (outV X LV : Buf (Elt F) (oLoc d)) := by
  have e : (bigSep (Finset.range 200) fun n => Full (F := F) d i oM X (listOf (F := F) i LV) n)
      ⊢ (bigSep Finset.univ fun n : Fin 200 => oLoc d ↦[oSet i n]{fullShare} (outV X LV : Buf (Elt F) (oLoc d)) : sProp 𝕄) :=
    (Entails.of_eq (bigSep_range 200 fun n => Full (F := F) d i oM X (listOf (F := F) i LV) n).symm).trans (bigSep_mono fun n _ => chunk_full n)
  unfold UD
  iintro ⟨-, H⟩
  iapply e $$ H

/-- The words of a part of the list are words of the list. -/
theorem listOf_lt (h : ∀ y, (LV y : BitVec 32).toNat < 100000) (x : S200x128.Idx) : (listOf (F := F) i LV x).toNat < 100000 := h _

/-- The four buffers copy a row at a time as they copy whole. -/
theorem credit1 : ∀ h : S100000x128.Gathers 0 S128x128, ∑ j, ((Memref.whole cc0_scratch1 : Memref sig .scVector .vmem S128x128 .f32).slice (S128x128.rowRect h.axis' j) (S128x128.stride_rowRect h.axis' j)).view.dmaCredit
    = (Memref.whole cc0_scratch1 : Memref sig .scVector .vmem S128x128 .f32).view.dmaCredit := by decide
theorem credit2 : ∀ h : S100000x128.Gathers 0 S128x128, ∑ j, ((Memref.whole cc0_scratch2 : Memref sig .scVector .vmem S128x128 .f32).slice (S128x128.rowRect h.axis' j) (S128x128.stride_rowRect h.axis' j)).view.dmaCredit
    = (Memref.whole cc0_scratch2 : Memref sig .scVector .vmem S128x128 .f32).view.dmaCredit := by decide
theorem credit3 : ∀ h : S100000x128.Gathers 0 S128x128, ∑ j, ((Memref.whole cc0_scratch3 : Memref sig .scVector .vmem S128x128 .f32).slice (S128x128.rowRect h.axis' j) (S128x128.stride_rowRect h.axis' j)).view.dmaCredit
    = (Memref.whole cc0_scratch3 : Memref sig .scVector .vmem S128x128 .f32).view.dmaCredit := by decide
theorem credit4 : ∀ h : S100000x128.Gathers 0 S128x128, ∑ j, ((Memref.whole cc0_scratch4 : Memref sig .scVector .vmem S128x128 .f32).slice (S128x128.rowRect h.axis' j) (S128x128.stride_rowRect h.axis' j)).view.dmaCredit
    = (Memref.whole cc0_scratch4 : Memref sig .scVector .vmem S128x128 .f32).view.dmaCredit := by decide

abbrev s0M : Memref sig .scVector .vmem S200x128 .i32 := Memref.whole cc0_scratch0
abbrev s1M : Memref sig .scVector .vmem S128x128 .f32 := Memref.whole cc0_scratch1
abbrev s2M : Memref sig .scVector .vmem S128x128 .f32 := Memref.whole cc0_scratch2
abbrev s3M : Memref sig .scVector .vmem S128x128 .f32 := Memref.whole cc0_scratch3
abbrev s4M : Memref sig .scVector .vmem S128x128 .f32 := Memref.whole cc0_scratch4

/-- The kernel as subcore `i` runs it. -/
abbrev prog (i : grid0.Coords) : TProg F i PUnit :=
  cc0__sc_gather i lM (Memref.isWhole_whole _) xM (Memref.isWhole_whole _) oM (Memref.isWhole_whole _) s0M (Memref.isWhole_whole _)
    s1M (Memref.isWhole_whole _) s2M (Memref.isWhole_whole _) s3M (Memref.isWhole_whole _) s4M (Memref.isWhole_whole _)
    cc0_scratch5 cc0_scratch6 cc0_scratch7 cc0_scratch8 cc0_scratch9 cc0_scratch10 cc0_scratch11 cc0_scratch12 cc0_scoped0

/-- The four slots. -/
abbrev slot0 (i : grid0.Coords) : Slot := slotOf s1M cc0_scratch5 cc0_scratch9 (quarter (xq i) 0) (quarter fullShare 0)
abbrev slot1 (i : grid0.Coords) : Slot := slotOf s2M cc0_scratch6 cc0_scratch10 (quarter (xq i) 1) (quarter fullShare 1)
abbrev slot2 (i : grid0.Coords) : Slot := slotOf s3M cc0_scratch7 cc0_scratch11 (quarter (xq i) 2) (quarter fullShare 2)
abbrev slot3 (i : grid0.Coords) : Slot := slotOf s4M cc0_scratch8 cc0_scratch12 (quarter (xq i) 3) (quarter fullShare 3)

/-- What the kernel begins with, -/
theorem task_in {O : CellTallies nD τ sig (HIx 1)} {W : Waits sig (HIx 1)} {f : Buf (Elt F) (oLoc d)} (hO : ∀ g, O g none = 0) :
    iprop(levAts (K (F := F)).L (K (F := F)).lev ∗ emp ∗ Task d i LV X f ∗ scopedBufs (thr d i) ∗ scopedSems0 (thr d i) ∗ owes (thr d i) O W)
      ⊢ (iprop(hold d i (lSrc i) fullShare (listOf (F := F) i LV) ∗ (∃ G, hold d i s0M fullShare G) ∗ semVal (thr d i, SemLoc.dma cc0_scoped0.sem) 0 ∗ Ow d i O W
        ∗ (UD d i oM X (listOf (F := F) i LV) 0 0 ∗ Bare d i (tbl xM) X (slot0 i) ∗ Bare d i (tbl xM) X (slot1 i) ∗ Bare d i (tbl xM) X (slot2 i)
          ∗ Bare d i (tbl xM) X (slot3 i) ∗ (bufRest d i ∗ semRest d i))) : sProp 𝕄) := by
  rw [(K (F := F)).scopedBufs_V sc_facts d (cV i) (jV i), SparseCore.Cfg.scopedSems0_V (Val := Elt F) d (cV i) (jV i), own_sems, own_bufs]
  unfold Task Ow Bare
  iintro ⟨#Hlv, -, ⟨Hl, Hx, Ho⟩, ⟨⟨⟨%f0, H0⟩, ⟨%f1, H1⟩, ⟨%f2, H2⟩, ⟨%f3, H3⟩, ⟨%f4, H4⟩⟩, Hbufs⟩,
    ⟨⟨Hs0, Hs5, Hs6, Hs7, Hs8, Hs9, Hs10, Hs11, Hs12⟩, Hsems⟩, HO⟩
  ihave Hmw := (show levAts (K (F := F)).L (K (F := F)).lev ⊢ Transfers.MayWaits (thr d i) (default : HIx 1) O from
    (K (F := F)).mayWaits_none (thr := thr d i) hO) $$ Hlv
  ihave Hx' := (table_hold (i := i) (X := X)) $$ Hx
  ihave Hx4 := hold_quarters $$ Hx'
  icases Hx4 with ⟨Hx0, Hx1, Hx2, Hx3⟩
  ihave Hl' := (list_hold (i := i)) $$ Hl
  ihave Ho' := (chunks_free (T := X) (L := listOf (F := F) i LV)) $$ Ho
  ihave H0' := (scratch_hold (b := s0M) (View.set_whole _) f0) $$ H0
  ihave H1' := (scratch_hold (F := F) (d := d) (i := i) (b := s1M) (View.set_whole _) f1) $$ H1
  ihave H2' := (scratch_hold (F := F) (d := d) (i := i) (b := s2M) (View.set_whole _) f2) $$ H2
  ihave H3' := (scratch_hold (F := F) (d := d) (i := i) (b := s3M) (View.set_whole _) f3) $$ H3
  ihave H4' := (scratch_hold (F := F) (d := d) (i := i) (b := s4M) (View.set_whole _) f4) $$ H4
  isplitl [Hl']; · iexact Hl'
  isplitl [H0']; · iexact H0'
  isplitl [Hs0]; · iexact Hs0
  isplitl [HO]
  · iexists W
    isplitr
    · ipureintro; exact fun p hp => Or.inl hp
    isplitl [HO]; · iexact HO
    iexact Hmw
  isplitl [Ho']; · iexact Ho'
  isplitl [H1' Hx0 Hs5 Hs9]
  · isplitl [H1']; · iexact H1'
    isplitl [Hx0]; · iexact Hx0
    isplitl [Hs5] <;> iassumption
  isplitl [H2' Hx1 Hs6 Hs10]
  · isplitl [H2']; · iexact H2'
    isplitl [Hx1]; · iexact Hx1
    isplitl [Hs6] <;> iassumption
  isplitl [H3' Hx2 Hs7 Hs11]
  · isplitl [H3']; · iexact H3'
    isplitl [Hx2]; · iexact Hx2
    isplitl [Hs7] <;> iassumption
  isplitl [H4' Hx3 Hs8 Hs12]
  · isplitl [H4']; · iexact H4'
    isplitl [Hx3]; · iexact Hx3
    isplitl [Hs8] <;> iassumption
  isplitl [Hbufs] <;> iassumption

/-- and what it ends with. -/
theorem task_out {O : CellTallies nD τ sig (HIx 1)} {W : Waits sig (HIx 1)} :
    iprop(Idle d i (tbl xM) s0M X (listOf (F := F) i LV) (slot0 i) ∗ Idle d i (tbl xM) s0M X (listOf (F := F) i LV) (slot1 i)
        ∗ Idle d i (tbl xM) s0M X (listOf (F := F) i LV) (slot2 i) ∗ Idle d i (tbl xM) s0M X (listOf (F := F) i LV) (slot3 i)
        ∗ (Ow d i O W ∗ UD d i oM X (listOf (F := F) i LV) 200 200
          ∗ (hold d i (lSrc i) fullShare (listOf (F := F) i LV) ∗ semVal (thr d i, SemLoc.dma cc0_scoped0.sem) 0 ∗ (bufRest d i ∗ semRest d i))))
      ⊢ (iprop(Task d i LV X (outV X LV) ∗ scopedBufs (thr d i) ∗ scopedSems0 (thr d i) ∗ ∃ W', ⌜∀ p ∈ W', p ∈ W ∨ p.2 = none⌝ ∗ owes (thr d i) O W') : sProp 𝕄) := by
  rw [(K (F := F)).scopedBufs_V sc_facts d (cV i) (jV i), SparseCore.Cfg.scopedSems0_V (Val := Elt F) d (cV i) (jV i), own_sems, own_bufs]
  unfold Task Ow Idle Tok
  iintro ⟨⟨⟨%g1, H1⟩, ⟨Hx0, Hl0⟩, Hs5, Hs9⟩, ⟨⟨%g2, H2⟩, ⟨Hx1, Hl1⟩, Hs6, Hs10⟩, ⟨⟨%g3, H3⟩, ⟨Hx2, Hl2⟩, Hs7, Hs11⟩, ⟨⟨%g4, H4⟩, ⟨Hx3, Hl3⟩, Hs8, Hs12⟩,
    ⟨%W', %hW, HO, -⟩, Ho, Hl, Hs0, Hbufs, Hsems⟩
  ihave Hx := (quarters_hold (d := d) (i := i) (b := tbl xM) (q := xq i) (G := X)) $$ [Hx0 Hx1 Hx2 Hx3]
  · isplitl [Hx0]; · iexact Hx0
    isplitl [Hx1]; · iexact Hx1
    isplitl [Hx2] <;> iassumption
  ihave H0 := (quarters_hold (d := d) (i := i) (b := s0M) (q := fullShare) (G := listOf (F := F) i LV)) $$ [Hl0 Hl1 Hl2 Hl3]
  · isplitl [Hl0]; · iexact Hl0
    isplitl [Hl1]; · iexact Hl1
    isplitl [Hl2] <;> iassumption
  ihave Hx' := hold_table $$ Hx
  ihave Hl' := hold_list $$ Hl
  ihave Ho' := chunks_full $$ Ho
  ihave H0' := (hold_scratch (b := s0M) (View.set_whole _)) $$ H0
  ihave H1' := (hold_scratch (b := s1M) (View.set_whole _)) $$ H1
  ihave H2' := (hold_scratch (b := s2M) (View.set_whole _)) $$ H2
  ihave H3' := (hold_scratch (b := s3M) (View.set_whole _)) $$ H3
  ihave H4' := (hold_scratch (b := s4M) (View.set_whole _)) $$ H4
  isplitl [Hl' Hx' Ho']
  · isplitl [Hl']; · iexact Hl'
    isplitl [Hx'] <;> iassumption
  isplitl [H0' H1' H2' H3' H4' Hbufs]
  · isplitr [Hbufs]
    · isplitl [H0']; · iexact H0'
      isplitl [H1']; · iexact H1'
      isplitl [H2']; · iexact H2'
      isplitl [H3'] <;> iassumption
    · iexact Hbufs
  isplitr [HO]
  · isplitr [Hsems]
    · isplitl [Hs0]; · iexact Hs0
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11] <;> iassumption
    · iexact Hsems
  iexists W'
  isplitr
  · ipureintro; exact hW
  · iexact HO

/-- The subcore's task: from its part of the arrays, its part of the result filled. -/
theorem tile_body {f : Buf (Elt F) (oLoc d)} (hin : ∀ y, (LV y : BitVec 32).toNat < 100000) (O : CellTallies nD τ sig (HIx 1)) (W : Waits sig (HIx 1)) (hO : ∀ g, O g none = 0) :
    iprop(levAts (K (F := F)).L (K (F := F)).lev ∗ emp ∗ Task d i LV X f ∗ scopedBufs (thr d i) ∗ scopedSems0 (thr d i) ∗ owes (thr d i) O W)
      ⊢ wp frame (wpE (defs₀ (F := F)) 𝒱₀ (thr d i) none) Set.univ (prog i) fun _ =>
        (iprop(Task d i LV X (outV X LV) ∗ scopedBufs (thr d i) ∗ scopedSems0 (thr d i) ∗ ∃ W', ⌜∀ p ∈ W', p ∈ W ∨ p.2 = none⌝ ∗ owes (thr d i) O W') : sProp 𝕄) :=
  (task_in hO).trans ((kernel_step (defs := defs₀ (F := F)) (qt := quarter (xq i)) (ql := quarter fullShare)
    (fun x => listOf_lt (F := F) hin x) credit1 credit2 credit3 credit4 hold_quarters).trans (wp_mono frame _ _ fun _ => task_out))

end Run

end Cert.KernelIdeal.Tile
-- ==== Proof.KernelIdeal.Launch.lean ====
/-
  The launch. The TensorCore lays the indices out as a list, hands the two SparseCores the list, the table and the
  result, each subcore its part of them, and lays what comes back out as the result. Every execution terminates with the
  result as the specification has it, the arguments as they were, and every semaphore at zero.
-/
module

public import proofs.«01_k».proof.Proof.KernelIdeal.Task
public import Idealize.ShloMosaic.Lib.StableHlo.Run

@[expose] public section

noncomputable section

namespace Cert.KernelIdeal.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The arrays' values -/

/-- The indices as a list of chunks. -/
def lstV (d : Dev nD) : S6400x128.Idx → BitVec 32 := fun y => shapeCast S6400x128 (m (aLoc d)) shapeCasts_S4096x200_S6400x128 y

/-- What the subcores leave, laid out as the result. -/
def resV (d : Dev nD) : S4096x200x128.Idx → Elt F .f32 :=
  fun y => shapeCast S4096x200x128 (outV (m (xLoc d)) (lstV m d)) shapeCasts_S819200x128_S4096x200x128 y

/-- What is asked of the launch memory: every index is a row of the table. -/
def InRange : Prop := ∀ (d : Dev nD) (j : S4096x200.Idx), (m (aLoc d) j : BitVec 32).toNat < 100000

theorem lst_lt (h : InRange m) (d : Dev nD) (y : S6400x128.Idx) : (lstV m d y).toNat < 100000 := h d _

/-! ## What is handed over -/

/-- The subcore's part of the arrays, before and after. -/
abbrev goT (d : Dev nD) (i : grid0.Coords) : sProp 𝕄 := Task d i (lstV m d) (m (xLoc d)) (m (oLoc d))
abbrev tdT (d : Dev nD) (i : grid0.Coords) : sProp 𝕄 := Task d i (lstV m d) (m (xLoc d)) (outV (m (xLoc d)) (lstV m d))

def P : (K (F := F)).Pay (nD := nD) (Val := Elt F) (Name := ℕ) (U := UU) where
  st := fun q d c => match q with | 0 => bigSep Finset.univ fun s : Fin ((K (F := F)).nSub 0) => goT m d (coordsV c s)
  dn := fun q d c => match q with | 0 => bigSep Finset.univ fun s : Fin ((K (F := F)).nSub 0) => tdT m d (coordsV c s)
  go := fun q d c s => match q with | 0 => goT m d (coordsV c s)
  td := fun q d c s => match q with | 0 => tdT m d (coordsV c s)
  x := fun _ _ => iprop(emp)

instance task_storable (d : Dev nD) (i : grid0.Coords) (LV : Buf (Elt F) (lLoc d)) (X : Buf (Elt F) (xLoc d)) (f : Buf (Elt F) (oLoc d)) :
    BI.Storable (upEmb : UEmb _ 𝕄) (Task d i LV X f) := by unfold Task; infer_instance

theorem parts_storable {n : ℕ} {Φ : Fin n → sProp 𝕄} (h : ∀ s, BI.Storable (upEmb : UEmb _ 𝕄) (Φ s)) :
    BI.Storable (upEmb : UEmb _ 𝕄) (bigSep Finset.univ Φ) := inferInstance

instance P_storable : (P (F := F) m).IsStorable where
  st q d c := match q with
    | 0 => parts_storable fun s => task_storable d (coordsV c s) _ _ _
  dn q d c := match q with
    | 0 => parts_storable fun s => task_storable d (coordsV c s) _ _ _
  go q d c s := match q with | 0 => task_storable d (coordsV c s) _ _ _
  td q d c s := match q with | 0 => task_storable d (coordsV c s) _ _ _

/-- Parts handed on as they came. -/
theorem hand_on {A B : sProp 𝕄} : A ⊢ |={Set.univ}=> iprop(A ∗ (B -∗ B)) := by
  iintro H
  imodintro
  isplitl [H]; · iexact H
  iintro H
  iexact H

/-- A SparseCore's part before is its subcores' parts. -/
theorem st_eq (d : Dev nD) (c : Fin ((K (F := F)).nCore 0)) :
    (P m).st 0 d c = bigSep Finset.univ fun s : Fin ((K (F := F)).nSub 0) => goT m d (coordsV c s) := by dsimp only [P]

/-- And after. -/
theorem dn_eq (d : Dev nD) (c : Fin ((K (F := F)).nCore 0)) :
    (P m).dn 0 d c = bigSep Finset.univ fun s : Fin ((K (F := F)).nSub 0) => tdT m d (coordsV c s) := by dsimp only [P]

theorem vecSplit : (K (F := F)).VecSplit' (P m) 0 := by
  intro d c
  dsimp only [P]
  exact hand_on

/-! ## The subcore's obligation -/

theorem body_eq (c : Fin τ.nSC) (s : Fin τ.nSub) :
    defs₀ (F := F) (.scVector c s) 0 () = SparseCore.onTile hcore0 hsub0 (fun c s => prog (coordsV c s)) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (h : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_eq]; simp only [SparseCore.onTile, hci, and_self, ↓reduceDIte]
  exact (tile_body (i := coordsV ⟨_, hci.1⟩ ⟨_, hci.2⟩) (lst_lt m h d) O W hO).trans (wp_mono frame _ _ fun _ => obl_post)

/-! ## The arrays, cut and joined -/

section Cut

/-- Sets of which every element is in one cover. -/
theorem cover_of {I J : Type} [Fintype J] [DecidableEq J] {s : Finset I} {A : I → Finset J} (h : ∀ x, ∃ p ∈ s, x ∈ A p) : s.biUnion A = Finset.univ :=
  Finset.eq_univ_iff_forall.mpr fun x => Finset.mem_biUnion.mpr (h x)

variable {d : Dev nD}

/-- Every row of the list is some subcore's, and one's only. -/
theorem list_cut (LV : Buf (Elt F) (lLoc d)) : (lLoc d ↦{fullShare} LV : sProp 𝕄)
    = bigSep Finset.univ fun c : Fin 2 => bigSep Finset.univ fun s : Fin 16 => lLoc d ↦[lSet (coordsV c s)]{fullShare} LV := by
  have hd : ∀ p ∈ (Finset.univ ×ˢ Finset.univ : Finset (Fin 2 × Fin 16)), ∀ p' ∈ (Finset.univ ×ˢ Finset.univ : Finset (Fin 2 × Fin 16)),
      p ≠ p' → Disjoint (lSet (coordsV p.1 p.2)) (lSet (coordsV p'.1 p'.2)) := by
    rintro ⟨c, s⟩ - ⟨c', s'⟩ - hne
    refine Finset.disjoint_left.mpr fun x hx hx' => hne ?_
    have h1 := mem_lSet.mp hx
    have h2 := mem_lSet.mp hx'
    change 400 * s.val + 200 * c.val ≤ _ ∧ _ < 400 * s.val + 200 * c.val + 200 at h1
    change 400 * s'.val + 200 * c'.val ≤ _ ∧ _ < 400 * s'.val + 200 * c'.val + 200 at h2
    have hc := c.isLt; have hc' := c'.isLt
    exact Prod.ext (Fin.ext (by show c.val = c'.val; omega)) (Fin.ext (by show s.val = s'.val; omega))
  have hu : (Finset.univ ×ˢ Finset.univ : Finset (Fin 2 × Fin 16)).biUnion (fun p => lSet (coordsV p.1 p.2)) = Finset.univ := by
    refine cover_of fun x => ?_
    have hx : (x 0).val < 6400 := (x 0).isLt
    refine ⟨(⟨(x 0).val % 400 / 200, by omega⟩, ⟨(x 0).val / 400, by omega⟩), Finset.mem_product.mpr ⟨Finset.mem_univ _, Finset.mem_univ _⟩, mem_lSet.mpr ?_⟩
    show 400 * ((x 0).val / 400) + 200 * ((x 0).val % 400 / 200) ≤ (x 0).val ∧ (x 0).val < 400 * ((x 0).val / 400) + 200 * ((x 0).val % 400 / 200) + 200
    omega
  rw [← SparseCore.bigSep_product Finset.univ Finset.univ (fun p : Fin 2 × Fin 16 => (lLoc d ↦[lSet (coordsV p.1 p.2)]{fullShare} LV : sProp 𝕄)),
    ← pointsTo_biUnion _ (ℓ := lLoc d) (fun p : Fin 2 × Fin 16 => lSet (coordsV p.1 p.2)) hd, hu]

/-- So is every row of the result some chunk's of some subcore. -/
theorem out_cut (f : Buf (Elt F) (oLoc d)) : (oLoc d ↦{fullShare} f : sProp 𝕄)
    = bigSep Finset.univ fun c : Fin 2 => bigSep Finset.univ fun s : Fin 16 => bigSep Finset.univ fun n : Fin 200 =>
      oLoc d ↦[oSet (coordsV c s) n]{fullShare} f := by
  have hd : ∀ p ∈ (Finset.univ ×ˢ (Finset.univ ×ˢ Finset.univ) : Finset (Fin 2 × Fin 16 × Fin 200)),
      ∀ p' ∈ (Finset.univ ×ˢ (Finset.univ ×ˢ Finset.univ) : Finset (Fin 2 × Fin 16 × Fin 200)),
      p ≠ p' → Disjoint (oSet (coordsV p.1 p.2.1) p.2.2) (oSet (coordsV p'.1 p'.2.1) p'.2.2) := by
    rintro ⟨c, s, n⟩ - ⟨c', s', n'⟩ - hne
    refine Finset.disjoint_left.mpr fun x hx hx' => hne ?_
    have h1 := mem_oSet.mp hx
    have h2 := mem_oSet.mp hx'
    change 51200 * s.val + 25600 * c.val + 128 * n.val ≤ _ ∧ _ < 51200 * s.val + 25600 * c.val + 128 * n.val + 128 at h1
    change 51200 * s'.val + 25600 * c'.val + 128 * n'.val ≤ _ ∧ _ < 51200 * s'.val + 25600 * c'.val + 128 * n'.val + 128 at h2
    have hc := c.isLt; have hc' := c'.isLt; have hn := n.isLt; have hn' := n'.isLt
    exact Prod.ext (Fin.ext (by show c.val = c'.val; omega))
      (Prod.ext (Fin.ext (by show s.val = s'.val; omega)) (Fin.ext (by show n.val = n'.val; omega)))
  have hu : (Finset.univ ×ˢ (Finset.univ ×ˢ Finset.univ) : Finset (Fin 2 × Fin 16 × Fin 200)).biUnion (fun p => oSet (coordsV p.1 p.2.1) p.2.2) = Finset.univ := by
    refine cover_of fun x => ?_
    have hx : (x 0).val < 819200 := (x 0).isLt
    refine ⟨(⟨(x 0).val % 51200 / 25600, by omega⟩, ⟨(x 0).val / 51200, by omega⟩, ⟨(x 0).val % 25600 / 128, by omega⟩),
      Finset.mem_product.mpr ⟨Finset.mem_univ _, Finset.mem_product.mpr ⟨Finset.mem_univ _, Finset.mem_univ _⟩⟩, mem_oSet.mpr ?_⟩
    show 51200 * ((x 0).val / 51200) + 25600 * ((x 0).val % 51200 / 25600) + 128 * ((x 0).val % 25600 / 128) ≤ (x 0).val
      ∧ (x 0).val < 51200 * ((x 0).val / 51200) + 25600 * ((x 0).val % 51200 / 25600) + 128 * ((x 0).val % 25600 / 128) + 128
    omega
  have e : ∀ c : Fin 2, (bigSep Finset.univ fun s : Fin 16 => bigSep Finset.univ fun n : Fin 200 => (oLoc d ↦[oSet (coordsV c s) n]{fullShare} f : sProp 𝕄))
      = bigSep (Finset.univ ×ˢ Finset.univ) fun p : Fin 16 × Fin 200 => (oLoc d ↦[oSet (coordsV c p.1) p.2]{fullShare} f : sProp 𝕄) :=
    fun c => (SparseCore.bigSep_product Finset.univ Finset.univ (fun p : Fin 16 × Fin 200 => (oLoc d ↦[oSet (coordsV c p.1) p.2]{fullShare} f : sProp 𝕄))).symm
  rw [bigSep_congr fun c _ => e c,
    ← SparseCore.bigSep_product Finset.univ (Finset.univ ×ˢ Finset.univ) (fun p : Fin 2 × Fin 16 × Fin 200 => (oLoc d ↦[oSet (coordsV p.1 p.2.1) p.2.2]{fullShare} f : sProp 𝕄)),
    ← pointsTo_biUnion _ (ℓ := oLoc d) (fun p : Fin 2 × Fin 16 × Fin 200 => oSet (coordsV p.1 p.2.1) p.2.2) hd, hu]

/-- Every subcore has its share of the table. -/
theorem table_cut (X : Buf (Elt F) (xLoc d)) : (xLoc d ↦{fullShare} X : sProp 𝕄)
    = bigSep Finset.univ fun c : Fin 2 => bigSep Finset.univ fun s : Fin 16 => xLoc d ↦{xq (coordsV c s)} X := by
  rw [Transfers.pointsTo_deal (Finset.univ : Finset (Fin 2)) Finset.univ_nonempty fullShare]
  refine bigSep_congr fun c _ => ?_
  exact Transfers.pointsTo_deal (Finset.univ : Finset (Fin 16)) Finset.univ_nonempty _

/-- The three arrays are the subcores' parts of them. -/
theorem all_cut (LV : Buf (Elt F) (lLoc d)) (X : Buf (Elt F) (xLoc d)) (f : Buf (Elt F) (oLoc d)) :
    (iprop((lLoc d ↦{fullShare} LV) ∗ (xLoc d ↦{fullShare} X) ∗ oLoc d ↦{fullShare} f) : sProp 𝕄)
      = bigSep Finset.univ fun c : Fin 2 => bigSep Finset.univ fun s : Fin 16 => Task d (coordsV c s) LV X f := by
  unfold Task
  rw [list_cut, table_cut, out_cut]
  rw [← bigSep_sep', ← bigSep_sep']
  refine bigSep_congr fun c _ => ?_
  rw [← bigSep_sep', ← bigSep_sep']

end Cut

end Cert.KernelIdeal.Tile
-- ==== Proof.KernelIdeal.Main.lean ====
/-
  The TensorCore's program and the run of the whole: the indices laid out as a list, the one call, the result laid out.
  Every execution terminates with the result as the specification has it, the arguments as they were, and every semaphore
  at zero.
-/
module

public import proofs.«01_k».proof.Proof.KernelIdeal.Launch

@[expose] public section

noncomputable section

namespace Cert.KernelIdeal.Tile

open Cert.KernelIdeal
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [Facts] [FloatOps F]
open K0.Facts₀ Shapes1.Facts₀ Shapes2.Facts₀ Facts

local notation "𝕄" => MT nD τ sig (HIx 1) (Elt F) ℕ UU ℕ

variable (m : (ℓ : Loc nD τ sig) → Buf (Elt F) ℓ) (ρ : Dev nD → PrngReg)

/-! ## A reshape -/

/-- Two buffers held whole. -/
theorem held_two (d : Dev nD) (a b : DevRef τ sig) (hab : a ∉ ({b} : Finset (DevRef τ sig))) (W : Valuation τ sig (Elt F)) :
    (held (T d) {a, b} W : sProp 𝕄) = iprop(((d, a) ↦{fullShare} W a) ∗ (d, b) ↦{fullShare} W b) := by
  unfold held
  rw [SparseCore.bigSep_insert' hab, bigSep_singleton]

/-- A TensorCore's buffer as the device's. -/
abbrev tcRef (x : Ref sig .tc) : DevRef τ sig := Proc.devRef .tc x

/-- A reshape on the TensorCore leaves its operand as it was and its result the operand's values in its own shape. -/
theorem wp_lay {d : Dev nD} {x y : Ref sig .tc} (he : x.ty.elt = y.ty.elt) (hn : x.ty.shape.ShapeCasts y.ty.shape)
    (hx : x.space ≠ .host ∧ (tcRef x).isScoped = false) (hy : y.space ≠ .host ∧ (tcRef y).isScoped = false)
    (hxy : (tcRef x) ∉ ({tcRef y} : Finset (DevRef τ sig)))
    (W : Valuation τ sig (Elt F)) (k : Prog (TpuEff nD τ sig (Elt F) (SparseCore.Sig (Pipeline.Sig Λ₀ (Fin 0) fun p => (pcfgs (F := F) p).Adm) 1) .tc) PUnit)
    (Q : PUnit → sProp 𝕄) :
    iprop(boundary (T d) ∗ ((d, (tcRef x)) ↦{fullShare} W (tcRef x)) ∗ ((d, (tcRef y)) ↦{fullShare} W (tcRef y))
        ∗ ((boundary (T d) ∗ ((d, (tcRef x)) ↦{fullShare} W (tcRef x)) ∗ ((d, (tcRef y)) ↦{fullShare} (StableHlo.reshape x y he hn hx hy).result W (tcRef y)))
            -∗ wp frame (wpE ((K (F := F)).defs (D (F := F))) 𝒱 (T d) none) Set.univ k Q))
      ⊢ wp frame (wpE ((K (F := F)).defs (D (F := F))) 𝒱 (T d) none) Set.univ (hlo rfl (StableHlo.reshape x y he hn hx hy) fun _ => k) Q := by
  have hr : (StableHlo.reshape x y he hn hx hy : HloOp τ sig (Elt F)).result W (tcRef x) = W (tcRef x) :=
    (StableHlo.reshape x y he hn hx hy : HloOp τ sig (Elt F)).result_of_not_mem W hxy
  have h0 := held_two d (tcRef x) (tcRef y) hxy W
  have h1 := held_two d (tcRef x) (tcRef y) hxy ((StableHlo.reshape x y he hn hx hy).result W)
  rw [hr] at h1
  iintro ⟨Hb, Hx, Hy, Hk⟩
  iapply (wp_hlo_within 𝒱 (T d) none Set.univ (op := StableHlo.reshape x y he hn hx hy) (S := {tcRef x, tcRef y}) (Finset.Subset.refl _) (V := W) (hf := rfl)) $$ [Hb Hx Hy]
  · isplitl [Hb]; · iexact Hb
    rw [h0]
    isplitl [Hx]; · iexact Hx
    iexact Hy
  iintro ⟨Hb, Hheld⟩
  ihave Hh := (Entails.of_eq h1) $$ Hheld
  icases Hh with ⟨Hx, Hy⟩
  iapply Hk
  isplitl [Hb]; · iexact Hb
  isplitl [Hx]; · iexact Hx
  iexact Hy

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_arg1) ∗ (lLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = iprop((lLoc d ↦{fullShare} lstV m d) ∗ (xLoc d ↦{fullShare} m (xLoc d)) ∗ oLoc d ↦{fullShare} m (oLoc d)) := by
  rw [bigSep_congr fun c _ => st_eq m d c]
  exact (all_cut _ _ _).symm

theorem dn0_eq (d : Dev nD) : (bigSep Finset.univ fun c : Fin ((K (F := F)).nCore 0) => (P m).dn 0 d c)
    = iprop((lLoc d ↦{fullShare} lstV m d) ∗ (xLoc d ↦{fullShare} m (xLoc d)) ∗ oLoc d ↦{fullShare} outV (m (xLoc d)) (lstV m d)) := by
  rw [bigSep_congr fun c _ => dn_eq m d c]
  exact (all_cut _ _ _).symm

/-- What the program leaves: the arguments as they were, the result as the specification has it. -/
abbrev FIN (d : Dev nD) : sProp 𝕄 := iprop((aLoc d ↦{fullShare} m (aLoc d)) ∗ (xLoc d ↦{fullShare} m (xLoc d)) ∗ rLoc d ↦{fullShare} resV m d)

abbrev arg0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The arrays at launch, and once the subcores have written the rows. -/
def W0 (d : Dev nD) : Valuation τ sig (Elt F) := fun b => m (d, b)
def W1 (d : Dev nD) : Valuation τ sig (Elt F) := Function.update (W0 m d) v1' (outV (m (xLoc d)) (lstV m d))

theorem W1_v1 (d : Dev nD) : W1 m d v1' = outV (m (xLoc d)) (lstV m d) := Function.update_self _ _ _
theorem W1_v2 (d : Dev nD) : W1 m d v2' = m (rLoc d) := Function.update_of_ne (show v2' ≠ v1' by decide) _ _

/-- The indices laid out. -/
theorem lay_list (d : Dev nD) (k : Prog (TpuEff nD τ sig (Elt F) (SparseCore.Sig (Pipeline.Sig Λ₀ (Fin 0) fun p => (pcfgs (F := F) p).Adm) 1) .tc) PUnit)
    (Q : PUnit → sProp 𝕄) :
    iprop(boundary (T d) ∗ (aLoc d ↦{fullShare} m (aLoc d)) ∗ (lLoc d ↦{fullShare} m (lLoc d))
        ∗ ((boundary (T d) ∗ (aLoc d ↦{fullShare} m (aLoc d)) ∗ (lLoc d ↦{fullShare} lstV m d))
            -∗ wp frame (wpE ((K (F := F)).defs (D (F := F))) 𝒱 (T d) none) Set.univ k Q))
      ⊢ wp frame (wpE ((K (F := F)).defs (D (F := F))) 𝒱 (T d) none) Set.univ
          (hlo rfl (StableHlo.reshape main_arg0 main_v0 (rfl : (.i32 : EltTy) = .i32) shapeCasts_S4096x200_S6400x128) fun _ => k) Q := by
  have e : (StableHlo.reshape main_arg0 main_v0 (rfl : (.i32 : EltTy) = .i32) shapeCasts_S4096x200_S6400x128 : HloOp τ sig (Elt F)).result (W0 m d) v0' = lstV m d :=
    StableHlo.reshape_result main_arg0 main_v0 rfl shapeCasts_S4096x200_S6400x128 _ _ (W0 m d)
  have h := wp_lay (d := d) (x := main_arg0) (y := main_v0) (rfl : (.i32 : EltTy) = .i32) shapeCasts_S4096x200_S6400x128
    ⟨by decide, rfl⟩ ⟨by decide, rfl⟩ (show arg0' ∉ ({v0'} : Finset (DevRef τ sig)) by decide) (W0 m d) k Q
  rw [e] at h
  exact h

/-- The result laid out. -/
theorem lay_result (d : Dev nD) (k : Prog (TpuEff nD τ sig (Elt F) (SparseCore.Sig (Pipeline.Sig Λ₀ (Fin 0) fun p => (pcfgs (F := F) p).Adm) 1) .tc) PUnit)
    (Q : PUnit → sProp 𝕄) :
    iprop(boundary (T d) ∗ (oLoc d ↦{fullShare} outV (m (xLoc d)) (lstV m d)) ∗ (rLoc d ↦{fullShare} m (rLoc d))
        ∗ ((boundary (T d) ∗ (oLoc d ↦{fullShare} outV (m (xLoc d)) (lstV m d)) ∗ (rLoc d ↦{fullShare} resV m d))
            -∗ wp frame (wpE ((K (F := F)).defs (D (F := F))) 𝒱 (T d) none) Set.univ k Q))
      ⊢ wp frame (wpE ((K (F := F)).defs (D (F := F))) 𝒱 (T d) none) Set.univ
          (hlo rfl (StableHlo.reshape main_v1 main_v2 (rfl : (.f32 : EltTy) = .f32) shapeCasts_S819200x128_S4096x200x128) fun _ => k) Q := by
  have e : (StableHlo.reshape main_v1 main_v2 (rfl : (.f32 : EltTy) = .f32) shapeCasts_S819200x128_S4096x200x128 : HloOp τ sig (Elt F)).result (W1 m d) v2' = resV m d := by
    refine (StableHlo.reshape_result main_v1 main_v2 rfl shapeCasts_S819200x128_S4096x200x128 _ _ (W1 m d)).trans ?_
    rw [W1_v1]; rfl
  have h := wp_lay (d := d) (x := main_v1) (y := main_v2) (rfl : (.f32 : EltTy) = .f32) shapeCasts_S819200x128_S4096x200x128
    ⟨by decide, rfl⟩ ⟨by decide, rfl⟩ (show v1' ∉ ({v2'} : Finset (DevRef τ sig)) by decide) (W1 m d) k Q
  rw [e, W1_v1, W1_v2] at h
  exact h

/-- The program on device `d`'s TensorCore: the list laid out, the call, the result laid out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hx, Hl, Ho, Hr⟩, Hts, -⟩, -⟩
  iapply (lay_list m d)
  isplitl [Hb]; · iexact Hb
  isplitl [Ha]; · iexact Ha
  isplitl [Hl]; · iexact Hl
  iintro ⟨Hb, Ha, Hl⟩
  rw [wp_ret]; imodintro
  iapply ((K (F := F)).wp_run (D (F := F)) 𝒱 (EH := EH) (P := P m) κ d 0) $$ [Hst Hb Ha Hx Hl Ho Hr Hts]
  isplitr; · iexact Hctx
  isplitl [Hst]; · iexact Hst
  isplitl [Hx Hl Ho]
  · rw [st0_eq]
    isplitl [Hl]; · iexact Hl
    isplitl [Hx]; · iexact Hx
    iexact Ho
  iintro ⟨Hst, Hdn⟩
  ihave Hdn' := (Entails.of_eq (dn0_eq m d)) $$ Hdn
  icases Hdn' with ⟨-, Hx, Ho⟩
  iapply (lay_result m d)
  isplitl [Hb]; · iexact Hb
  isplitl [Ho]; · iexact Ho
  isplitl [Hr]; · iexact Hr
  iintro ⟨Hb, -, Hr⟩
  rw [wp_ret]; imodintro; imodintro
  isplitl [Hst]; · iexact Hst
  isplitr [Hb Hts]
  · isplitl [Ha]; · iexact Ha
    isplitl [Hx]; · iexact Hx
    iexact Hr
  isplitl [Hb] <;> iassumption

/-! ## The run -/

def fq (d : Dev nD) (s' : Phys nD τ sig (Elt F)) : Prop :=
  s'.mem.mem (aLoc d) = m (aLoc d) ∧ s'.mem.mem (xLoc d) = m (xLoc d) ∧ s'.mem.mem (rLoc d) = resV m d

/-- A buffer held whole is what the memory has there. -/
theorem read_off {ℓ : Loc nD τ sig} {f : Buf (Elt F) ℓ} {s' : Phys nD τ sig (Elt F)} :
    (iprop((ℓ ↦{fullShare} f) ∗ SI s') : sProp 𝕄) ⊢ iprop(⌜s'.mem.mem ℓ = f⌝ ∗ SI s') := by
  iintro ⟨Hl, HSI⟩
  ihave H := (persistent_entails_right (SI_pointsTo_agree (st := s') (ℓ := ℓ) (I := Finset.univ) (q := fullShare) (f := f))) $$ [HSI Hl]
  · isplitl [HSI] <;> iassumption
  icases H with ⟨%h1, HSI, -⟩
  isplitr
  · ipureintro; exact funext fun i => h1 i (Finset.mem_univ i)
  · iexact HSI

theorem hfin (d : Dev nD) (s' : Phys nD τ sig (Elt F)) : iprop(FIN m d ∗ SI s') ⊢ (⌜fq m d s'⌝ : sProp 𝕄) := by
  iintro ⟨⟨Ha, Hx, Hr⟩, HSI⟩
  ihave H := (read_off (ℓ := aLoc d) (f := m (aLoc d)) (s' := s')) $$ [HSI Ha]
  · isplitl [Ha] <;> iassumption
  icases H with ⟨%h1, HSI⟩
  ihave H := (read_off (ℓ := xLoc d) (f := m (xLoc d)) (s' := s')) $$ [HSI Hx]
  · isplitl [Hx] <;> iassumption
  icases H with ⟨%h2, HSI⟩
  ihave H := (read_off (ℓ := rLoc d) (f := resV m d) (s' := s')) $$ [HSI Hr]
  · isplitl [Hr] <;> iassumption
  icases H with ⟨%h3, -⟩
  ipureintro; exact ⟨h1, h2, h3⟩

/-- The end of a run. -/
def QC : PUnit × MemSt nD τ sig (Elt F) → Prop := fun r =>
  (∀ c : Dev nD, r.2.mem (aLoc c) = m (aLoc c) ∧ r.2.mem (xLoc c) = m (xLoc c) ∧ r.2.mem (rLoc c) = resV m c) ∧ r.2.sem = fun _ => 0

theorem run_main [∀ e, Nonempty (Elt F e)] (h : InRange m) :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) sc_facts v₀
    (fun q hq => match q with | 0 => nomatch hq)
    (fun q _ => match q with | 0 => tileObl m h)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Tile
-- ==== Proof.Value.Range.lean ====
/-
  What the precondition says of a device's indices: every one of them is a row of the table.
-/
module

public import proofs.«01_k».proof.Pre_in_range
public import proofs.«01_k».proof.Proof.Gen.Pre_in_range
public import Idealize.ShloMosaic.Lib.ReduceAll
public import Idealize.ShloMosaic.Lib.StableHlo.Predicate

@[expose] public section

namespace Cert.Rows

open Idealize.ShloMosaic Cert.Pre_in_range

/-- A word that is at least nothing and below a hundred thousand, read as signed, is so read as a number. -/
theorem word_lt (w : BitVec 32) (h0 : IntOp.cmpi .sge w 0#32 = 1#1) (h1 : IntOp.cmpi .slt w 100000#32 = 1#1) : w.toNat < 100000 := by
  simp only [IntOp.cmpi, StableHlo.Predicate.ofBool_eq_one_iff, BitVec.sle_eq_decide, BitVec.slt_eq_decide, decide_eq_true_eq,
    BitVec.toInt_eq_toNat_cond, BitVec.toNat_ofNat] at h0 h1
  omega

/-- Where the precondition holds, every index is below the table's height. -/
theorem in_range_lt {F : FTy → Type} [FloatOps F] [Cert.Pre_in_range.Facts] (x : IVec S4096x200 32) (t : FVec F S100000x128 .f32)
    (h : Cert.Pre_in_range.fn x t = fun _ => 1#1) (j : S4096x200.Idx) : (x j).toNat < 100000 := by
  haveI : Subsingleton S_.Idx := ⟨fun a b => funext fun z => z.elim0⟩
  have e := Host.reduce_andi_all _ _ _ _ (fun z => z.elim0) (congrFun h fun z => z.elim0) j
  obtain ⟨e0, e1⟩ := IntOp.andi_eq_one.mp e
  exact word_lt _ e0 e1

end Cert.Rows
-- ==== Proof.Value.Host.lean ====
/-
  Two of the reference's operations, read at an element, at any sizes: one row of a table replaced, and the rows of a table
  taken at an array of indices. Nothing here names a program.
-/
module

public import Idealize.ShloMosaic.Lib.Routing.OpsOne

@[expose] public section

namespace Cert.Rows

open Idealize.ShloMosaic Idealize.ShloMosaic.ValueIdx

variable {α : Type}

/-- The second dimension is not the first. -/
theorem one_nmem : (1 : Fin 2) ∉ ([0] : List (Fin 2)) := by decide

/-- The first dimension is not the second. -/
theorem zero_nmem : (0 : Fin 2) ∉ ([1] : List (Fin 2)) := by decide

/-- Where an update of one row lands: in its own column of the row named. -/
theorem row_lands {N C : ℕ} (d : ScatterDims ⟨2, ![N, C]⟩ ⟨1, ![1]⟩ ⟨1, ![C]⟩) (hi : d.insertedWindowDims = [0])
    (hs : d.scatterDimsToOperandDims = [0]) (idx : IVec ⟨1, ![1]⟩ 32) (k : Fin N) (hk : (idx (ix1 0)).toInt = (k.val : ℤ))
    (j : (⟨1, ![C]⟩ : Shape).Idx) (r : Fin N) (c : Fin C) : d.resultIdx? j idx = some (ix2 r c) ↔ r = k ∧ j 0 = c := by
  have hm : (0 : Fin 2) ∈ d.scatterDimsToOperandDims := by rw [hs]; exact List.mem_singleton.mpr rfl
  have hkept : d.sKept = [1] := by
    show (⟨2, ![N, C]⟩ : Shape).kept d.insertedWindowDims = _
    rw [hi]; rfl
  have s0 : d.start j idx 0 = (k.val : ℤ) := by
    unfold ScatterDims.start
    rw [dif_pos hm, ← hk]
    exact congrArg (fun z => (idx z).toInt) (funext fun b => by
      match b with
      | ⟨0, _⟩ => exact Subsingleton.elim (α := Fin 1) _ _)
  have s1 : d.start j idx 1 = 0 := by
    unfold ScatterDims.start
    exact dif_neg (by rw [hs]; exact one_nmem)
  have w0 : d.window j 0 = 0 := by
    unfold ScatterDims.window
    exact dif_neg (by rw [hkept]; exact zero_nmem)
  have w1 : d.window j 1 = (j 0).val := by
    unfold ScatterDims.window
    rw [dif_pos (by rw [hkept]; exact List.mem_singleton.mpr rfl)]
    exact congrArg (fun z : Fin 1 => (j z).val) (Subsingleton.elim _ _)
  have hj : j 0 = c ↔ (j 0).val = c.val := Fin.ext_iff
  rw [Routing.resultIdx?_ix2, s0, s1, w0, w1, hj, Fin.ext_iff]
  omega

/-- A table with one row replaced: the new row there, the table elsewhere. -/
theorem set_row {N C : ℕ} (d : ScatterDims ⟨2, ![N, C]⟩ ⟨1, ![1]⟩ ⟨1, ![C]⟩) (hi : d.insertedWindowDims = [0])
    (hs : d.scatterDimsToOperandDims = [0]) (x : (⟨2, ![N, C]⟩ : Shape).Idx → α) (idx : IVec ⟨1, ![1]⟩ 32) (u : (⟨1, ![C]⟩ : Shape).Idx → α)
    (k : Fin N) (hk : (idx (ix1 0)).toInt = (k.val : ℤ)) (r : Fin N) (c : Fin C) :
    Host.scatter d (fun _ b => b) x idx u (ix2 r c) = if r = k then u (ix1 c) else x (ix2 r c) := by
  split
  · rename_i h
    refine Routing.scatter_set_hit d x idx u _ _ (fun j hj => ?_) (ix1 c) ((row_lands d hi hs idx k hk _ r c).mpr ⟨h, rfl⟩)
    rw [eq_ix1 j]
    exact congrArg (fun z => u (ix1 z)) ((row_lands d hi hs idx k hk j r c).mp hj).2
  · rename_i h
    exact Routing.scatter_set_miss d x idx u _ fun j hj => h ((row_lands d hi hs idx k hk j r c).mp hj).1

/-- The dimension numbers of a table's rows taken at an array of indices. -/
abbrev takeRows (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A table's rows taken at an array of indices, each index being a row of it. -/
theorem take_rows {N C A B : ℕ} (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (c : Fin C)
    (r : Fin N) (hr : (idx (ix3 a b 0)).toInt = (r.val : ℤ)) :
    Host.gather (takeRows N C A B wf) x idx (ix3 a b c) = x (ix2 r c) := by
  have hlt := r.isLt
  have hs : ∀ h, (takeRows N C A B wf).siIdx (ix3 a b c) ⟨List.idxOf (0 : Fin 2) (takeRows N C A B wf).startIndexMap, h⟩ = ix3 a b 0 := fun h => by
    funext z
    match z with
    | ⟨0, _⟩ => rfl
    | ⟨1, _⟩ => rfl
    | ⟨2, _⟩ => rfl
  refine congrArg x (funext fun z => Fin.ext ?_)
  match z with
  | ⟨0, _⟩ =>
    show (takeRows N C A B wf).start (ix3 a b c) idx 0 + (takeRows N C A B wf).batchCoord (ix3 a b c) 0 + (takeRows N C A B wf).offCoord (ix3 a b c) 0 = r.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (takeRows N C A B wf).startIndexMap from List.mem_singleton.mpr rfl), hs, hr]
    show min (r.val : ℤ).toNat (N - 1) + 0 + 0 = r.val
    omega
  | ⟨1, _⟩ =>
    show (takeRows N C A B wf).start (ix3 a b c) idx 1 + (takeRows N C A B wf).batchCoord (ix3 a b c) 1 + (takeRows N C A B wf).offCoord (ix3 a b c) 1 = c.val
    rw [GatherDims.batchCoord_eq_zero _ _ _ List.not_mem_nil]
    unfold GatherDims.start GatherDims.offCoord
    rw [dif_neg (show (1 : Fin 2) ∉ (takeRows N C A B wf).startIndexMap from one_nmem),
      dif_pos ((GatherDims.mem_sKept _ _).mpr ⟨one_nmem, List.not_mem_nil⟩), Nat.add_zero, Nat.zero_add]
    rfl

end Cert.Rows
-- ==== Proof.Value.Ref.lean ====
/-
  The reference's result at a position: the table's row named there, and zeros where the row named is the padding row. The
  reference's own guards never act where every index is a row of the table: no index is negative, and none is past the end.
-/
module

public import proofs.«01_k».proof.Proof.Gen.ReferenceIdeal
public import proofs.«01_k».proof.Proof.Value.Host
public import Idealize.ShloMosaic.Lib.ReduceAll
public import Idealize.ShloMosaic.Lib.StableHlo.Predicate

@[expose] public section

noncomputable section

namespace Cert.Rows

open Cert.ReferenceIdeal Cert.ReferenceIdeal.Gen Idealize.ShloMosaic Idealize.ShloMosaic.ValueIdx

variable {F : FTy → Type} [FloatOps F]

/-- The indices as the reference uses them: a negative one counted from the end, and one dimension of one added. -/
def refIdx (x : IVec S4096x200 32) : IVec S4096x200x1 32 :=
  broadcastInDim S4096x200x1 ![0, 1] bcast_S4096x200_S4096x200x1_0_1
    (select (cmpi .slt x (broadcastInDim S4096x200 ![] bcast_S_S4096x200 (constantI S_ 32 0#32)))
      (addi x (broadcastInDim S4096x200 ![] bcast_S_S4096x200 (constantI S_ 32 100000#32))) x)

/-- Where the reference finds an index inside the table. -/
def refMask (x : IVec S4096x200 32) : IVec S4096x200 1 :=
  Host.reduce IntOp.andi
    (andi (cmpi .sge (refIdx x) (broadcastInDim S4096x200x1 ![] bcast_S_S4096x200x1 (constantI S_ 32 0#32)))
      (cmpi .sle (refIdx x) (broadcastInDim S4096x200x1 ![0, 1, 2] bcast_S1x1x1_S4096x200x1_0_1_2
        (broadcastInDim S1x1x1 ![2] bcast_S1_S1x1x1_2 (constantI S1 32 99999#32)))))
    (constantI S_ 1 1#1) reducesTo_S4096x200x1_S4096x200_d2 h_S_

/-- The table with its padding row set to zeros. -/
def refTab (T : FVec F S100000x128 .f32) : FVec F S100000x128 .f32 :=
  Host.scatter scatter_S100000x128_S1_S128_0_0_0_0 (fun _ b => b) T (broadcastInDim S1 ![] bcast_S_S1 (constantI S_ 32 99999#32))
    (broadcastInDim S128 ![] bcast_S_S128 (constant S_ .f32 0x00000000#32))

/-- The reference's result. -/
def refOut (x : IVec S4096x200 32) (T : FVec F S100000x128 .f32) : FVec F S4096x200x128 .f32 :=
  select (broadcastInDim S4096x200x128 ![0, 1] bcast_S4096x200_S4096x200x128_0_1 (refMask x))
    (Host.gather gather_S100000x128_S4096x200x1_S4096x200x128_2_0_n_n_0_2_1128 (refTab T) (refIdx x))
    (broadcastInDim S4096x200x128 ![] bcast_S_S4096x200x128 (constant S_ .f32 0x7FC00000#32))

/-- The index used at a position is the one given there, it being no negative number. -/
theorem refIdx_at (x : IVec S4096x200 32) (hx : ∀ j, (x j).toNat < 100000) (y : S4096x200x1.Idx) : refIdx x y = x (ix2 (y 0) (y 1)) := by
  have e : ∀ z : S4096x200.Idx,
      select (cmpi .slt x (broadcastInDim S4096x200 ![] bcast_S_S4096x200 (constantI S_ 32 0#32)))
        (addi x (broadcastInDim S4096x200 ![] bcast_S_S4096x200 (constantI S_ 32 100000#32))) x z = x z := fun z =>
    if_neg fun h => by
      have h' := (StableHlo.Predicate.slt_iff_toNat (a := x z) (b := 0#32) (by have := hx z; omega) (by decide)).mp h
      simp at h'
  unfold refIdx broadcastInDim
  refine (e _).trans (congrArg x (funext fun a => Fin.ext ?_))
  match a with
  | ⟨0, _⟩ => rfl
  | ⟨1, _⟩ => rfl

/-- Every index is found inside the table. -/
theorem refMask_at (x : IVec S4096x200 32) (hx : ∀ j, (x j).toNat < 100000) (y : S4096x200.Idx) : refMask x y = 1#1 := by
  refine Host.reduce_andi_one _ _ _ _ _ rfl fun z => IntOp.andi_eq_one.mpr ⟨?_, ?_⟩
  · have h := hx (ix2 (z 0) (z 1))
    show IntOp.cmpi .sge (refIdx x z) 0#32 = 1#1
    rw [refIdx_at x hx]
    exact (StableHlo.Predicate.sge_iff_toNat (by omega) (by decide)).mpr (Nat.zero_le _)
  · have h := hx (ix2 (z 0) (z 1))
    show IntOp.cmpi .sle (refIdx x z) 99999#32 = 1#1
    rw [refIdx_at x hx]
    refine (StableHlo.Predicate.sle_iff_toNat (by omega) (by decide)).mpr ?_
    show _ ≤ 99999
    omega

/-- The padded table at a position: zeros in the padding row, the table elsewhere. -/
theorem refTab_at (T : FVec F S100000x128 .f32) (r : Fin 100000) (c : Fin 128) :
    refTab T (ix2 r c) = if r = ⟨99999, by omega⟩ then constant (F := F) S_ .f32 0x00000000#32 (fun z => z.elim0) else T (ix2 r c) :=
  (set_row scatter_S100000x128_S1_S128_0_0_0_0 rfl rfl T _ _ ⟨99999, by omega⟩ (by rfl) r c).trans rfl

/-- A choice between two arrays, where the first is chosen. -/
theorem select_one {s : Shape} {α : Type} (c : IVec s 1) (p q : s.Idx → α) (j : s.Idx) (h : c j = 1#1) : select c p q j = p j := if_pos h

/-- The reference's result at a position. -/
theorem refOut_at (x : IVec S4096x200 32) (T : FVec F S100000x128 .f32) (hx : ∀ j, (x j).toNat < 100000) (a : Fin 4096) (b : Fin 200) (c : Fin 128) :
    refOut x T (ix3 a b c) = if x (ix2 a b) = 99999#32 then constant (F := F) S_ .f32 0x00000000#32 (fun z => z.elim0)
      else T (ix2 ⟨(x (ix2 a b)).toNat, hx _⟩ c) := by
  have hm : broadcastInDim S4096x200x128 ![0, 1] bcast_S4096x200_S4096x200x128_0_1 (refMask x) (ix3 a b c) = 1#1 := refMask_at x hx _
  have hi : (refIdx x (ix3 a b 0)).toInt = (((⟨(x (ix2 a b)).toNat, hx _⟩ : Fin 100000).val : ℕ) : ℤ) := by
    rw [refIdx_at x hx]
    exact StableHlo.Predicate.toInt_eq_toNat_of_lt (by have := hx (ix2 a b); show (x (ix2 a b)).toNat < 2 ^ 31; omega)
  have hg : Host.gather gather_S100000x128_S4096x200x1_S4096x200x128_2_0_n_n_0_2_1128 (refTab T) (refIdx x) (ix3 a b c)
      = refTab T (ix2 ⟨(x (ix2 a b)).toNat, hx _⟩ c) := take_rows _ (refTab T) (refIdx x) a b c _ hi
  have hc : (⟨(x (ix2 a b)).toNat, hx _⟩ : Fin 100000) = ⟨99999, by omega⟩ ↔ x (ix2 a b) = 99999#32 := by
    rw [Fin.ext_iff, ← BitVec.toNat_inj]
    exact Iff.rfl
  unfold refOut
  rw [select_one _ _ _ _ hm, hg]
  rw [refTab_at]
  exact if_congr hc rfl rfl

end Cert.Rows

end
-- ==== Proof.Value.Match.lean ====
/-
  The kernel's result and the reference's, compared at a position: the list of chunks is the indices in order, and row `r` of
  what the subcores leave is the row of the result at `(r / 200, r % 200)`.
-/
module

public import proofs.«01_k».proof.Proof.KernelIdeal.Launch
public import proofs.«01_k».proof.Proof.Gen.KernelIdeal
public import proofs.«01_k».proof.Proof.Value.Ref
public import Idealize.ShloMosaic.Lib.Pipeline.Value

@[expose] public section

noncomputable section

namespace Cert.Rows

open Cert.KernelIdeal Cert.KernelIdeal.Tile Idealize.ShloMosaic Idealize.ShloMosaic.ValueIdx

variable {F : FTy → Type} [FloatOps F]

variable (m : (ℓ : Loc nD τ sig) → Buf (Elt F) ℓ)

/-- A device's indices, as the array of words they are. -/
def idxs (d : Dev nD) : S4096x200.Idx → BitVec 32 := m (aLoc d)

/-- The list's entry for row `200 * a + b` is the index at `(a, b)`. -/
theorem lstV_at (d : Dev nD) (a : Fin 4096) (b : Fin 200) (r : ℕ) (hr : r < 819200) (e : r = 200 * a.val + b.val) :
    lstV m d (lrow r hr) = idxs m d (ix2 a b) := by
  unfold lstV
  refine shapeCast_apply (s := S4096x200) (t := S6400x128) _ _ _ _ ?_
  rw [Shape.rowMajor_val_two, Shape.rowMajor_val_two]
  show a.val * 200 + b.val = r / 128 * 128 + r % 128
  omega

/-- The result at `(a, b, c)` is what the subcores leave at row `200 * a + b`. -/
theorem resV_at (d : Dev nD) (a : Fin 4096) (b : Fin 200) (c : Fin 128) :
    resV m d (ix3 a b c) = outV (m (xLoc d)) (lstV m d) (ix2 ⟨200 * a.val + b.val, by omega⟩ c) := by
  unfold resV
  refine shapeCast_apply (s := S819200x128) (t := S4096x200x128) _ _ _ _ ?_
  rw [Shape.rowMajor_val_two, Shape.rowMajor_val_three]
  show (200 * a.val + b.val) * 128 + c.val = (a.val * 200 + b.val) * 128 + c.val
  omega

/-- The element of the table named by a row below its height. -/
theorem tabAt_of (T : S100000x128.Idx → Elt F .f32) (r : ℕ) (hr : r < 100000) (c : Fin 128) : tabAt T r c.val = T (ix2 ⟨r, hr⟩ c) := by
  unfold tabAt
  rw [dif_pos ⟨hr, c.isLt⟩]
  refine congrArg T (funext fun z => Fin.ext ?_)
  match z with
  | ⟨0, _⟩ => rfl
  | ⟨1, _⟩ => rfl

/-- What the subcores leave at row `200 * a + b`: the table's row the index names, or zeros for the padding index. -/
theorem outV_at (h : InRange m) (d : Dev nD) (a : Fin 4096) (b : Fin 200) (c : Fin 128) :
    outV (m (xLoc d)) (lstV m d) (ix2 ⟨200 * a.val + b.val, by omega⟩ c)
      = if idxs m d (ix2 a b) = 99999#32 then zf else m (xLoc d) (ix2 ⟨(idxs m d (ix2 a b)).toNat, h d _⟩ c) := by
  show (if lstV m d (lrow (200 * a.val + b.val) (by omega)) = 99999#32 then zf
    else tabAt (m (xLoc d)) (lstV m d (lrow (200 * a.val + b.val) (by omega))).toNat c.val) = _
  rw [lstV_at m d a b _ _ rfl]
  exact if_congr Iff.rfl rfl (tabAt_of (F := F) (m (xLoc d)) _ (h d (ix2 a b)) c)

/-- The two results are one. -/
theorem results_eq (h : InRange m) (d : Dev nD) : resV m d = refOut (F := F) (m (aLoc d)) (m (xLoc d)) := by
  funext y
  rw [show y = ix3 (y 0) (y 1) (y 2) from eq_ix3 y]
  exact (resV_at m d _ _ _).trans ((outV_at m h d _ _ _).trans (refOut_at (F := F) (idxs m d) (m (xLoc d)) (h d) _ _ _).symm)

end Cert.Rows

end
-- ==== Proof.lean ====
/-
  The claims of this certificate, assembled: the kernel's two frames from its run with the values dropped, the reference's from
  its own run, and the value claim from the two runs and the equality of what they leave.
-/
module

public import proofs.«01_k».proof.Defs
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Kernel.Main
public import proofs.«01_k».proof.Proof.KernelIdeal.Main
public import proofs.«01_k».proof.Proof.Value.Range
public import proofs.«01_k».proof.Proof.Value.Ref
public import proofs.«01_k».proof.Proof.Value.Match
public import Idealize.ShloMosaic.Adequacy
public import Idealize.ShloMosaic.Init

@[expose] public section

noncomputable section

namespace Cert.Proof

open Idealize.ShloMosaic Idealize.SL.Sem

/-- Every float format has a value at the bit level. -/
theorem elts_bits : ∀ e, Nonempty (Elt Bits e) := fun e => by cases e <;> exact ⟨0⟩

/-- Under the precondition the kernel's indices are rows of the table. -/
theorem kernel_range (m : (ℓ : Loc Kernel.nD Kernel.τ Kernel.sig) → Buf (Elt Bits) ℓ) (h : Pre_Kernel m) : Kernel.Tile.InRange m :=
  fun d j => Rows.in_range_lt _ _ (h d) j

/-- The same of the idealized kernel. -/
theorem ideal_range (m : (ℓ : Loc KernelIdeal.nD KernelIdeal.τ KernelIdeal.sig) → Buf (Elt Ideal) ℓ) (h : Pre_KernelIdeal m) :
    KernelIdeal.Tile.InRange m :=
  fun d j => Rows.in_range_lt _ _ (h d) j

/-- The kernel runs, leaves its arguments alone, and ends with every semaphore at zero. -/
theorem kernel_frame : quiescent_Kernel := fun m g h =>
  (θ_run Kernel.defs _ _).mono (fun _ q => ⟨fun c => ⟨(q.1 c).1, (q.1 c).2.1⟩, q.2⟩) (Kernel.Tile.run_main (F := Bits) m g (kernel_range m h))

/-- So does the idealized kernel. -/
theorem ideal_frame : quiescent_KernelIdeal := fun m g h =>
  (θ_run KernelIdeal.defs _ _).mono (fun _ q => ⟨fun c => ⟨(q.1 c).1, (q.1 c).2.1⟩, q.2⟩) (KernelIdeal.Tile.run_main (F := Ideal) m g (ideal_range m h))

/-- So does the reference, which has no semaphores. -/
theorem reference_frame : quiescent_ReferenceIdeal := fun m g _ =>
  (θ_run ReferenceIdeal.defs _ _).mono (fun r h => ⟨fun c => ⟨(h c).2.1, (h c).2.2⟩, sem_eq_zero_of_no_sems (by decide) r.2⟩)
    (ReferenceIdeal.Value.run (F := Ideal) m g)

/-- From arguments that agree, the idealized kernel and the reference leave one result. -/
theorem values : algebraic_KernelIdeal_ReferenceIdeal := fun m g m' g' h e =>
  ⟨fun c => KernelIdeal.Tile.resV m c,
    (θ_run KernelIdeal.defs _ _).mono (fun _ q c => ⟨(q.1 c).2.2, (q.1 c).1, (q.1 c).2.1⟩)
      (KernelIdeal.Tile.run_main (F := Ideal) m g (ideal_range m h)),
    (θ_run ReferenceIdeal.defs _ _).mono (fun _ q c => ⟨(q c).1.trans (by
        rw [(e c).1, (e c).2]
        exact (Rows.results_eq m (ideal_range m h) c).symm), (q c).2.1, (q c).2.2⟩)
      (ReferenceIdeal.Value.run (F := Ideal) m' g')⟩

/-- Everything claimed. -/
theorem claim : Cert.Claim :=
  ⟨Cert.Kernel.Gen.facts, Cert.KernelIdeal.Gen.facts, Cert.ReferenceIdeal.Gen.facts, Cert.Pre_in_range.Gen.facts,
    kernel_frame, ideal_frame, reference_frame, fun m g _ => reference_frame m g trivial, trivial, values⟩

end Cert.Proof

end
